-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4096x1024 : Shape := ⟨2, ![4096, 1024]⟩
abbrev S16 : Shape := ⟨1, ![16]⟩
abbrev S_ : Shape := ⟨0, ![]⟩
abbrev S1 : Shape := ⟨1, ![1]⟩
abbrev S256x1024 : Shape := ⟨2, ![256, 1024]⟩
abbrev S256x896 : Shape := ⟨2, ![256, 896]⟩
abbrev S256x128 : Shape := ⟨2, ![256, 128]⟩

abbrev nBuf : Space → Nat
  | .hbm => 2
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 241 → Bool
  | ⟨i, _⟩ => dmaSemScopedAt i

abbrev sig : RefSig :=
  (ofTc nBuf bufTy 1 241 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v29 : BitVec 32 := Scalar.muli v2 c4_i32_17
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v31 : BitVec 32 := Scalar.muli v5 c2_i32_18
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_19 : BitVec 32 := 1#32
  let v33 : BitVec 32 := Scalar.muli v9 c1_i32_19
  let v34 : BitVec 32 := Scalar.addi v32 v33
  v34.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v35 : BitVec 32 := Scalar.muli v10 c4_i32_21
  let v36 : BitVec 32 := Scalar.addi c0_i32_22 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v37 : BitVec 32 := Scalar.muli v5 c2_i32_23
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v39 : BitVec 32 := Scalar.muli v8 c1_i32_24
  let v40 : BitVec 32 := Scalar.addi v38 v39
  v40.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_28 : BitVec 32 := 2#32
  let v43 : BitVec 32 := Scalar.muli v11 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_off1 (d0 : Dev nD) (c0_i32_30 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32 : BitVec 32 := 4096#32
  let v47 : BitVec 32 := Scalar.muli v13 c4096_i32
  let v48 : BitVec 32 := Scalar.addi v47 c0_i32_30
  let c0_i32_39 : BitVec 32 := 0#32
  ![v48.toNat, 0]
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v49 : BitVec 32 := Scalar.muli v2 c4_i32_33
  let v50 : BitVec 32 := Scalar.addi c0_i32_34 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v51 : BitVec 32 := Scalar.muli v5 c2_i32_35
  let v52 : BitVec 32 := Scalar.addi v50 v51
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v53 : BitVec 32 := Scalar.muli v9 c1_i32_36
  let v54 : BitVec 32 := Scalar.addi v52 v53
  v54.toNat
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v63 : BitVec 32 := Scalar.muli v2 c4_i32_43
  let v64 : BitVec 32 := Scalar.addi c0_i32_44 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v65 : BitVec 32 := Scalar.muli v5 c2_i32_45
  let v66 : BitVec 32 := Scalar.addi v64 v65
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_46 : BitVec 32 := 1#32
  let v67 : BitVec 32 := Scalar.muli v9 c1_i32_46
  let v68 : BitVec 32 := Scalar.addi v66 v67
  v68.toNat
def k0_dev6 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v77 : BitVec 32 := Scalar.muli v2 c4_i32_53
  let v78 : BitVec 32 := Scalar.addi c0_i32_54 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v79 : BitVec 32 := Scalar.muli v5 c2_i32_55
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_56 : BitVec 32 := 1#32
  let v81 : BitVec 32 := Scalar.muli v9 c1_i32_56
  let v82 : BitVec 32 := Scalar.addi v80 v81
  v82.toNat
def k0_dev7 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v91 : BitVec 32 := Scalar.muli v2 c4_i32_63
  let v92 : BitVec 32 := Scalar.addi c0_i32_64 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v93 : BitVec 32 := Scalar.muli v5 c2_i32_65
  let v94 : BitVec 32 := Scalar.addi v92 v93
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_66 : BitVec 32 := 1#32
  let v95 : BitVec 32 := Scalar.muli v9 c1_i32_66
  let v96 : BitVec 32 := Scalar.addi v94 v95
  v96.toNat
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v105 : BitVec 32 := Scalar.muli v2 c4_i32_73
  let v106 : BitVec 32 := Scalar.addi c0_i32_74 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v107 : BitVec 32 := Scalar.muli v5 c2_i32_75
  let v108 : BitVec 32 := Scalar.addi v106 v107
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_76 : BitVec 32 := 1#32
  let v109 : BitVec 32 := Scalar.muli v9 c1_i32_76
  let v110 : BitVec 32 := Scalar.addi v108 v109
  v110.toNat
def k0_dev9 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v119 : BitVec 32 := Scalar.muli v2 c4_i32_82
  let v120 : BitVec 32 := Scalar.addi c0_i32_83 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v121 : BitVec 32 := Scalar.muli v5 c2_i32_84
  let v122 : BitVec 32 := Scalar.addi v120 v121
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_85 : BitVec 32 := 1#32
  let v123 : BitVec 32 := Scalar.muli v9 c1_i32_85
  let v124 : BitVec 32 := Scalar.addi v122 v123
  v124.toNat
def k0_dev10 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v133 : BitVec 32 := Scalar.muli v2 c4_i32_91
  let v134 : BitVec 32 := Scalar.addi c0_i32_92 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v135 : BitVec 32 := Scalar.muli v5 c2_i32_93
  let v136 : BitVec 32 := Scalar.addi v134 v135
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_94 : BitVec 32 := 1#32
  let v137 : BitVec 32 := Scalar.muli v9 c1_i32_94
  let v138 : BitVec 32 := Scalar.addi v136 v137
  v138.toNat
def k0_dev11 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v147 : BitVec 32 := Scalar.muli v2 c4_i32_100
  let v148 : BitVec 32 := Scalar.addi c0_i32_101 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v149 : BitVec 32 := Scalar.muli v5 c2_i32_102
  let v150 : BitVec 32 := Scalar.addi v148 v149
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_103 : BitVec 32 := 1#32
  let v151 : BitVec 32 := Scalar.muli v9 c1_i32_103
  let v152 : BitVec 32 := Scalar.addi v150 v151
  v152.toNat
def k0_dev12 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v161 : BitVec 32 := Scalar.muli v2 c4_i32_109
  let v162 : BitVec 32 := Scalar.addi c0_i32_110 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v163 : BitVec 32 := Scalar.muli v5 c2_i32_111
  let v164 : BitVec 32 := Scalar.addi v162 v163
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_112 : BitVec 32 := 1#32
  let v165 : BitVec 32 := Scalar.muli v9 c1_i32_112
  let v166 : BitVec 32 := Scalar.addi v164 v165
  v166.toNat
def k0_dev13 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v175 : BitVec 32 := Scalar.muli v2 c4_i32_118
  let v176 : BitVec 32 := Scalar.addi c0_i32_119 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v177 : BitVec 32 := Scalar.muli v5 c2_i32_120
  let v178 : BitVec 32 := Scalar.addi v176 v177
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_121 : BitVec 32 := 1#32
  let v179 : BitVec 32 := Scalar.muli v9 c1_i32_121
  let v180 : BitVec 32 := Scalar.addi v178 v179
  v180.toNat
def k0_dev14 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v189 : BitVec 32 := Scalar.muli v2 c4_i32_127
  let v190 : BitVec 32 := Scalar.addi c0_i32_128 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v191 : BitVec 32 := Scalar.muli v5 c2_i32_129
  let v192 : BitVec 32 := Scalar.addi v190 v191
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v193 : BitVec 32 := Scalar.muli v9 c1_i32_130
  let v194 : BitVec 32 := Scalar.addi v192 v193
  v194.toNat
def k0_dev15 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v203 : BitVec 32 := Scalar.muli v2 c4_i32_136
  let v204 : BitVec 32 := Scalar.addi c0_i32_137 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v205 : BitVec 32 := Scalar.muli v5 c2_i32_138
  let v206 : BitVec 32 := Scalar.addi v204 v205
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_139 : BitVec 32 := 1#32
  let v207 : BitVec 32 := Scalar.muli v9 c1_i32_139
  let v208 : BitVec 32 := Scalar.addi v206 v207
  v208.toNat
def k0_dev16 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v217 : BitVec 32 := Scalar.muli v2 c4_i32_145
  let v218 : BitVec 32 := Scalar.addi c0_i32_146 v217
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v219 : BitVec 32 := Scalar.muli v5 c2_i32_147
  let v220 : BitVec 32 := Scalar.addi v218 v219
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_148 : BitVec 32 := 1#32
  let v221 : BitVec 32 := Scalar.muli v9 c1_i32_148
  let v222 : BitVec 32 := Scalar.addi v220 v221
  v222.toNat
def k0_dev17 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v231 : BitVec 32 := Scalar.muli v2 c4_i32_154
  let v232 : BitVec 32 := Scalar.addi c0_i32_155 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v233 : BitVec 32 := Scalar.muli v5 c2_i32_156
  let v234 : BitVec 32 := Scalar.addi v232 v233
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_157 : BitVec 32 := 1#32
  let v235 : BitVec 32 := Scalar.muli v9 c1_i32_157
  let v236 : BitVec 32 := Scalar.addi v234 v235
  v236.toNat
def k0_dev18 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v245 : BitVec 32 := Scalar.muli v2 c4_i32_163
  let v246 : BitVec 32 := Scalar.addi c0_i32_164 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_165 : BitVec 32 := 2#32
  let v247 : BitVec 32 := Scalar.muli v5 c2_i32_165
  let v248 : BitVec 32 := Scalar.addi v246 v247
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_166 : BitVec 32 := 1#32
  let v249 : BitVec 32 := Scalar.muli v9 c1_i32_166
  let v250 : BitVec 32 := Scalar.addi v248 v249
  v250.toNat
def k0_dev19 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v259 : BitVec 32 := Scalar.muli v2 c4_i32_172
  let v260 : BitVec 32 := Scalar.addi c0_i32_173 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v261 : BitVec 32 := Scalar.muli v5 c2_i32_174
  let v262 : BitVec 32 := Scalar.addi v260 v261
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_175 : BitVec 32 := 1#32
  let v263 : BitVec 32 := Scalar.muli v9 c1_i32_175
  let v264 : BitVec 32 := Scalar.addi v262 v263
  v264.toNat
def k0_off2 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32_179 : BitVec 32 := 4096#32
  let v271 : BitVec 32 := Scalar.muli v13 c4096_i32_179
  let c0_i32_180 : BitVec 32 := 0#32
  ![v271.toNat, 0]
def k0_off3 (d0 : Dev nD) (c0_i32_197 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32_196 : BitVec 32 := 4096#32
  let v290 : BitVec 32 := Scalar.muli v13 c4096_i32_196
  let v291 : BitVec 32 := Scalar.addi v290 c0_i32_197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![v291.toNat, v24.toNat]
def k0_off4 (d0 : Dev nD) : Fin 2 → Nat :=
  let c0_i32_204 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![0, v24.toNat]
def k0_dev20 (d0 : Dev nD) : Nat :=
  let c0_i32_201 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_200 : BitVec 32 := 4#32
  let v292 : BitVec 32 := Scalar.muli v10 c4_i32_200
  let v293 : BitVec 32 := Scalar.addi c0_i32_201 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v294 : BitVec 32 := Scalar.muli v5 c2_i32_202
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v296 : BitVec 32 := Scalar.muli v8 c1_i32_203
  let v297 : BitVec 32 := Scalar.addi v295 v296
  v297.toNat
def k0_dev21 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v306 : BitVec 32 := Scalar.muli v2 c4_i32_209
  let v307 : BitVec 32 := Scalar.addi c0_i32_210 v306
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_211 : BitVec 32 := 2#32
  let v308 : BitVec 32 := Scalar.muli v11 c2_i32_211
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v310 : BitVec 32 := Scalar.muli v8 c1_i32_212
  let v311 : BitVec 32 := Scalar.addi v309 v310
  v311.toNat
def k0_off5 (d0 : Dev nD) : Fin 2 → Nat :=
  let c256_i32_242 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![256, v24.toNat]
def k0_dev22 (d0 : Dev nD) : Nat :=
  let c0_i32_239 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_238 : BitVec 32 := 4#32
  let v342 : BitVec 32 := Scalar.muli v10 c4_i32_238
  let v343 : BitVec 32 := Scalar.addi c0_i32_239 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v344 : BitVec 32 := Scalar.muli v5 c2_i32_240
  let v345 : BitVec 32 := Scalar.addi v343 v344
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v346 : BitVec 32 := Scalar.muli v8 c1_i32_241
  let v347 : BitVec 32 := Scalar.addi v345 v346
  v347.toNat
def k0_dev23 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v356 : BitVec 32 := Scalar.muli v2 c4_i32_247
  let v357 : BitVec 32 := Scalar.addi c0_i32_248 v356
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_249 : BitVec 32 := 2#32
  let v358 : BitVec 32 := Scalar.muli v11 c2_i32_249
  let v359 : BitVec 32 := Scalar.addi v357 v358
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_250 : BitVec 32 := 1#32
  let v360 : BitVec 32 := Scalar.muli v8 c1_i32_250
  let v361 : BitVec 32 := Scalar.addi v359 v360
  v361.toNat
def k0_off6 (d0 : Dev nD) : Fin 2 → Nat :=
  let c512_i32_280 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![512, v24.toNat]
def k0_dev24 (d0 : Dev nD) : Nat :=
  let c0_i32_277 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_276 : BitVec 32 := 4#32
  let v392 : BitVec 32 := Scalar.muli v10 c4_i32_276
  let v393 : BitVec 32 := Scalar.addi c0_i32_277 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v394 : BitVec 32 := Scalar.muli v5 c2_i32_278
  let v395 : BitVec 32 := Scalar.addi v393 v394
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v396 : BitVec 32 := Scalar.muli v8 c1_i32_279
  let v397 : BitVec 32 := Scalar.addi v395 v396
  v397.toNat
def k0_dev25 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v406 : BitVec 32 := Scalar.muli v2 c4_i32_285
  let v407 : BitVec 32 := Scalar.addi c0_i32_286 v406
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_287 : BitVec 32 := 2#32
  let v408 : BitVec 32 := Scalar.muli v11 c2_i32_287
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_288 : BitVec 32 := 1#32
  let v410 : BitVec 32 := Scalar.muli v8 c1_i32_288
  let v411 : BitVec 32 := Scalar.addi v409 v410
  v411.toNat
def k0_off7 (d0 : Dev nD) : Fin 2 → Nat :=
  let c768_i32_318 : BitVec 32 := 768#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![768, v24.toNat]
def k0_dev26 (d0 : Dev nD) : Nat :=
  let c0_i32_315 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_314 : BitVec 32 := 4#32
  let v442 : BitVec 32 := Scalar.muli v10 c4_i32_314
  let v443 : BitVec 32 := Scalar.addi c0_i32_315 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_316 : BitVec 32 := 2#32
  let v444 : BitVec 32 := Scalar.muli v5 c2_i32_316
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v446 : BitVec 32 := Scalar.muli v8 c1_i32_317
  let v447 : BitVec 32 := Scalar.addi v445 v446
  v447.toNat
def k0_dev27 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v456 : BitVec 32 := Scalar.muli v2 c4_i32_323
  let v457 : BitVec 32 := Scalar.addi c0_i32_324 v456
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_325 : BitVec 32 := 2#32
  let v458 : BitVec 32 := Scalar.muli v11 c2_i32_325
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v460 : BitVec 32 := Scalar.muli v8 c1_i32_326
  let v461 : BitVec 32 := Scalar.addi v459 v460
  v461.toNat
def k0_off8 (d0 : Dev nD) : Fin 2 → Nat :=
  let c1024_i32_356 : BitVec 32 := 1024#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![1024, v24.toNat]
def k0_dev28 (d0 : Dev nD) : Nat :=
  let c0_i32_353 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_352 : BitVec 32 := 4#32
  let v492 : BitVec 32 := Scalar.muli v10 c4_i32_352
  let v493 : BitVec 32 := Scalar.addi c0_i32_353 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_354 : BitVec 32 := 2#32
  let v494 : BitVec 32 := Scalar.muli v5 c2_i32_354
  let v495 : BitVec 32 := Scalar.addi v493 v494
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v496 : BitVec 32 := Scalar.muli v8 c1_i32_355
  let v497 : BitVec 32 := Scalar.addi v495 v496
  v497.toNat
def k0_dev29 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v506 : BitVec 32 := Scalar.muli v2 c4_i32_361
  let v507 : BitVec 32 := Scalar.addi c0_i32_362 v506
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_363 : BitVec 32 := 2#32
  let v508 : BitVec 32 := Scalar.muli v11 c2_i32_363
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v510 : BitVec 32 := Scalar.muli v8 c1_i32_364
  let v511 : BitVec 32 := Scalar.addi v509 v510
  v511.toNat
def k0_off9 (d0 : Dev nD) : Fin 2 → Nat :=
  let c1280_i32_394 : BitVec 32 := 1280#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![1280, v24.toNat]
def k0_dev30 (d0 : Dev nD) : Nat :=
  let c0_i32_391 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_390 : BitVec 32 := 4#32
  let v542 : BitVec 32 := Scalar.muli v10 c4_i32_390
  let v543 : BitVec 32 := Scalar.addi c0_i32_391 v542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v544 : BitVec 32 := Scalar.muli v5 c2_i32_392
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_393 : BitVec 32 := 1#32
  let v546 : BitVec 32 := Scalar.muli v8 c1_i32_393
  let v547 : BitVec 32 := Scalar.addi v545 v546
  v547.toNat
def k0_dev31 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v556 : BitVec 32 := Scalar.muli v2 c4_i32_399
  let v557 : BitVec 32 := Scalar.addi c0_i32_400 v556
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_401 : BitVec 32 := 2#32
  let v558 : BitVec 32 := Scalar.muli v11 c2_i32_401
  let v559 : BitVec 32 := Scalar.addi v557 v558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v560 : BitVec 32 := Scalar.muli v8 c1_i32_402
  let v561 : BitVec 32 := Scalar.addi v559 v560
  v561.toNat
def k0_off10 (d0 : Dev nD) : Fin 2 → Nat :=
  let c1536_i32_432 : BitVec 32 := 1536#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![1536, v24.toNat]
def k0_dev32 (d0 : Dev nD) : Nat :=
  let c0_i32_429 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_428 : BitVec 32 := 4#32
  let v592 : BitVec 32 := Scalar.muli v10 c4_i32_428
  let v593 : BitVec 32 := Scalar.addi c0_i32_429 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_430 : BitVec 32 := 2#32
  let v594 : BitVec 32 := Scalar.muli v5 c2_i32_430
  let v595 : BitVec 32 := Scalar.addi v593 v594
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_431 : BitVec 32 := 1#32
  let v596 : BitVec 32 := Scalar.muli v8 c1_i32_431
  let v597 : BitVec 32 := Scalar.addi v595 v596
  v597.toNat
def k0_dev33 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_437 : BitVec 32 := 4#32
  let v606 : BitVec 32 := Scalar.muli v2 c4_i32_437
  let v607 : BitVec 32 := Scalar.addi c0_i32_438 v606
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_439 : BitVec 32 := 2#32
  let v608 : BitVec 32 := Scalar.muli v11 c2_i32_439
  let v609 : BitVec 32 := Scalar.addi v607 v608
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_440 : BitVec 32 := 1#32
  let v610 : BitVec 32 := Scalar.muli v8 c1_i32_440
  let v611 : BitVec 32 := Scalar.addi v609 v610
  v611.toNat
def k0_off11 (d0 : Dev nD) : Fin 2 → Nat :=
  let c1792_i32_470 : BitVec 32 := 1792#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![1792, v24.toNat]
def k0_dev34 (d0 : Dev nD) : Nat :=
  let c0_i32_467 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_466 : BitVec 32 := 4#32
  let v642 : BitVec 32 := Scalar.muli v10 c4_i32_466
  let v643 : BitVec 32 := Scalar.addi c0_i32_467 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v644 : BitVec 32 := Scalar.muli v5 c2_i32_468
  let v645 : BitVec 32 := Scalar.addi v643 v644
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v646 : BitVec 32 := Scalar.muli v8 c1_i32_469
  let v647 : BitVec 32 := Scalar.addi v645 v646
  v647.toNat
def k0_dev35 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v656 : BitVec 32 := Scalar.muli v2 c4_i32_475
  let v657 : BitVec 32 := Scalar.addi c0_i32_476 v656
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_477 : BitVec 32 := 2#32
  let v658 : BitVec 32 := Scalar.muli v11 c2_i32_477
  let v659 : BitVec 32 := Scalar.addi v657 v658
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v660 : BitVec 32 := Scalar.muli v8 c1_i32_478
  let v661 : BitVec 32 := Scalar.addi v659 v660
  v661.toNat
def k0_off12 (d0 : Dev nD) : Fin 2 → Nat :=
  let c2048_i32_508 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![2048, v24.toNat]
def k0_dev36 (d0 : Dev nD) : Nat :=
  let c0_i32_505 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_504 : BitVec 32 := 4#32
  let v692 : BitVec 32 := Scalar.muli v10 c4_i32_504
  let v693 : BitVec 32 := Scalar.addi c0_i32_505 v692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_506 : BitVec 32 := 2#32
  let v694 : BitVec 32 := Scalar.muli v5 c2_i32_506
  let v695 : BitVec 32 := Scalar.addi v693 v694
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_507 : BitVec 32 := 1#32
  let v696 : BitVec 32 := Scalar.muli v8 c1_i32_507
  let v697 : BitVec 32 := Scalar.addi v695 v696
  v697.toNat
def k0_dev37 (d0 : Dev nD) : Nat :=
  let c0_i32_514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_513 : BitVec 32 := 4#32
  let v706 : BitVec 32 := Scalar.muli v2 c4_i32_513
  let v707 : BitVec 32 := Scalar.addi c0_i32_514 v706
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_515 : BitVec 32 := 2#32
  let v708 : BitVec 32 := Scalar.muli v11 c2_i32_515
  let v709 : BitVec 32 := Scalar.addi v707 v708
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_516 : BitVec 32 := 1#32
  let v710 : BitVec 32 := Scalar.muli v8 c1_i32_516
  let v711 : BitVec 32 := Scalar.addi v709 v710
  v711.toNat
def k0_off13 (d0 : Dev nD) : Fin 2 → Nat :=
  let c2304_i32_546 : BitVec 32 := 2304#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![2304, v24.toNat]
def k0_dev38 (d0 : Dev nD) : Nat :=
  let c0_i32_543 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_542 : BitVec 32 := 4#32
  let v742 : BitVec 32 := Scalar.muli v10 c4_i32_542
  let v743 : BitVec 32 := Scalar.addi c0_i32_543 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_544 : BitVec 32 := 2#32
  let v744 : BitVec 32 := Scalar.muli v5 c2_i32_544
  let v745 : BitVec 32 := Scalar.addi v743 v744
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_545 : BitVec 32 := 1#32
  let v746 : BitVec 32 := Scalar.muli v8 c1_i32_545
  let v747 : BitVec 32 := Scalar.addi v745 v746
  v747.toNat
def k0_dev39 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v756 : BitVec 32 := Scalar.muli v2 c4_i32_551
  let v757 : BitVec 32 := Scalar.addi c0_i32_552 v756
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_553 : BitVec 32 := 2#32
  let v758 : BitVec 32 := Scalar.muli v11 c2_i32_553
  let v759 : BitVec 32 := Scalar.addi v757 v758
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_554 : BitVec 32 := 1#32
  let v760 : BitVec 32 := Scalar.muli v8 c1_i32_554
  let v761 : BitVec 32 := Scalar.addi v759 v760
  v761.toNat
def k0_off14 (d0 : Dev nD) : Fin 2 → Nat :=
  let c2560_i32_584 : BitVec 32 := 2560#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![2560, v24.toNat]
def k0_dev40 (d0 : Dev nD) : Nat :=
  let c0_i32_581 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_580 : BitVec 32 := 4#32
  let v792 : BitVec 32 := Scalar.muli v10 c4_i32_580
  let v793 : BitVec 32 := Scalar.addi c0_i32_581 v792
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_582 : BitVec 32 := 2#32
  let v794 : BitVec 32 := Scalar.muli v5 c2_i32_582
  let v795 : BitVec 32 := Scalar.addi v793 v794
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_583 : BitVec 32 := 1#32
  let v796 : BitVec 32 := Scalar.muli v8 c1_i32_583
  let v797 : BitVec 32 := Scalar.addi v795 v796
  v797.toNat
def k0_dev41 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_589 : BitVec 32 := 4#32
  let v806 : BitVec 32 := Scalar.muli v2 c4_i32_589
  let v807 : BitVec 32 := Scalar.addi c0_i32_590 v806
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_591 : BitVec 32 := 2#32
  let v808 : BitVec 32 := Scalar.muli v11 c2_i32_591
  let v809 : BitVec 32 := Scalar.addi v807 v808
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v810 : BitVec 32 := Scalar.muli v8 c1_i32_592
  let v811 : BitVec 32 := Scalar.addi v809 v810
  v811.toNat
def k0_off15 (d0 : Dev nD) : Fin 2 → Nat :=
  let c2816_i32_622 : BitVec 32 := 2816#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![2816, v24.toNat]
def k0_dev42 (d0 : Dev nD) : Nat :=
  let c0_i32_619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_618 : BitVec 32 := 4#32
  let v842 : BitVec 32 := Scalar.muli v10 c4_i32_618
  let v843 : BitVec 32 := Scalar.addi c0_i32_619 v842
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v844 : BitVec 32 := Scalar.muli v5 c2_i32_620
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_621 : BitVec 32 := 1#32
  let v846 : BitVec 32 := Scalar.muli v8 c1_i32_621
  let v847 : BitVec 32 := Scalar.addi v845 v846
  v847.toNat
def k0_dev43 (d0 : Dev nD) : Nat :=
  let c0_i32_628 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_627 : BitVec 32 := 4#32
  let v856 : BitVec 32 := Scalar.muli v2 c4_i32_627
  let v857 : BitVec 32 := Scalar.addi c0_i32_628 v856
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_629 : BitVec 32 := 2#32
  let v858 : BitVec 32 := Scalar.muli v11 c2_i32_629
  let v859 : BitVec 32 := Scalar.addi v857 v858
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_630 : BitVec 32 := 1#32
  let v860 : BitVec 32 := Scalar.muli v8 c1_i32_630
  let v861 : BitVec 32 := Scalar.addi v859 v860
  v861.toNat
def k0_off16 (d0 : Dev nD) : Fin 2 → Nat :=
  let c3072_i32_660 : BitVec 32 := 3072#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![3072, v24.toNat]
def k0_dev44 (d0 : Dev nD) : Nat :=
  let c0_i32_657 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_656 : BitVec 32 := 4#32
  let v892 : BitVec 32 := Scalar.muli v10 c4_i32_656
  let v893 : BitVec 32 := Scalar.addi c0_i32_657 v892
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v894 : BitVec 32 := Scalar.muli v5 c2_i32_658
  let v895 : BitVec 32 := Scalar.addi v893 v894
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_659 : BitVec 32 := 1#32
  let v896 : BitVec 32 := Scalar.muli v8 c1_i32_659
  let v897 : BitVec 32 := Scalar.addi v895 v896
  v897.toNat
def k0_dev45 (d0 : Dev nD) : Nat :=
  let c0_i32_666 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_665 : BitVec 32 := 4#32
  let v906 : BitVec 32 := Scalar.muli v2 c4_i32_665
  let v907 : BitVec 32 := Scalar.addi c0_i32_666 v906
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_667 : BitVec 32 := 2#32
  let v908 : BitVec 32 := Scalar.muli v11 c2_i32_667
  let v909 : BitVec 32 := Scalar.addi v907 v908
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_668 : BitVec 32 := 1#32
  let v910 : BitVec 32 := Scalar.muli v8 c1_i32_668
  let v911 : BitVec 32 := Scalar.addi v909 v910
  v911.toNat
def k0_off17 (d0 : Dev nD) : Fin 2 → Nat :=
  let c3328_i32_698 : BitVec 32 := 3328#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![3328, v24.toNat]
def k0_dev46 (d0 : Dev nD) : Nat :=
  let c0_i32_695 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_694 : BitVec 32 := 4#32
  let v942 : BitVec 32 := Scalar.muli v10 c4_i32_694
  let v943 : BitVec 32 := Scalar.addi c0_i32_695 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_696 : BitVec 32 := 2#32
  let v944 : BitVec 32 := Scalar.muli v5 c2_i32_696
  let v945 : BitVec 32 := Scalar.addi v943 v944
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_697 : BitVec 32 := 1#32
  let v946 : BitVec 32 := Scalar.muli v8 c1_i32_697
  let v947 : BitVec 32 := Scalar.addi v945 v946
  v947.toNat
def k0_dev47 (d0 : Dev nD) : Nat :=
  let c0_i32_704 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_703 : BitVec 32 := 4#32
  let v956 : BitVec 32 := Scalar.muli v2 c4_i32_703
  let v957 : BitVec 32 := Scalar.addi c0_i32_704 v956
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_705 : BitVec 32 := 2#32
  let v958 : BitVec 32 := Scalar.muli v11 c2_i32_705
  let v959 : BitVec 32 := Scalar.addi v957 v958
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_706 : BitVec 32 := 1#32
  let v960 : BitVec 32 := Scalar.muli v8 c1_i32_706
  let v961 : BitVec 32 := Scalar.addi v959 v960
  v961.toNat
def k0_off18 (d0 : Dev nD) : Fin 2 → Nat :=
  let c3584_i32_736 : BitVec 32 := 3584#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![3584, v24.toNat]
def k0_dev48 (d0 : Dev nD) : Nat :=
  let c0_i32_733 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_732 : BitVec 32 := 4#32
  let v992 : BitVec 32 := Scalar.muli v10 c4_i32_732
  let v993 : BitVec 32 := Scalar.addi c0_i32_733 v992
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v994 : BitVec 32 := Scalar.muli v5 c2_i32_734
  let v995 : BitVec 32 := Scalar.addi v993 v994
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_735 : BitVec 32 := 1#32
  let v996 : BitVec 32 := Scalar.muli v8 c1_i32_735
  let v997 : BitVec 32 := Scalar.addi v995 v996
  v997.toNat
def k0_dev49 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_741 : BitVec 32 := 4#32
  let v1006 : BitVec 32 := Scalar.muli v2 c4_i32_741
  let v1007 : BitVec 32 := Scalar.addi c0_i32_742 v1006
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_743 : BitVec 32 := 2#32
  let v1008 : BitVec 32 := Scalar.muli v11 c2_i32_743
  let v1009 : BitVec 32 := Scalar.addi v1007 v1008
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v1010 : BitVec 32 := Scalar.muli v8 c1_i32_744
  let v1011 : BitVec 32 := Scalar.addi v1009 v1010
  v1011.toNat
def k0_off19 (d0 : Dev nD) : Fin 2 → Nat :=
  let c3840_i32_774 : BitVec 32 := 3840#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![3840, v24.toNat]
def k0_dev50 (d0 : Dev nD) : Nat :=
  let c0_i32_771 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_770 : BitVec 32 := 4#32
  let v1042 : BitVec 32 := Scalar.muli v10 c4_i32_770
  let v1043 : BitVec 32 := Scalar.addi c0_i32_771 v1042
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_772 : BitVec 32 := 2#32
  let v1044 : BitVec 32 := Scalar.muli v5 c2_i32_772
  let v1045 : BitVec 32 := Scalar.addi v1043 v1044
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_773 : BitVec 32 := 1#32
  let v1046 : BitVec 32 := Scalar.muli v8 c1_i32_773
  let v1047 : BitVec 32 := Scalar.addi v1045 v1046
  v1047.toNat
def k0_dev51 (d0 : Dev nD) : Nat :=
  let c0_i32_780 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_779 : BitVec 32 := 4#32
  let v1056 : BitVec 32 := Scalar.muli v2 c4_i32_779
  let v1057 : BitVec 32 := Scalar.addi c0_i32_780 v1056
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_781 : BitVec 32 := 2#32
  let v1058 : BitVec 32 := Scalar.muli v11 c2_i32_781
  let v1059 : BitVec 32 := Scalar.addi v1057 v1058
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_782 : BitVec 32 := 1#32
  let v1060 : BitVec 32 := Scalar.muli v8 c1_i32_782
  let v1061 : BitVec 32 := Scalar.addi v1059 v1060
  v1061.toNat
def k0_off20 (d0 : Dev nD) (c0_i32_793 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_792 : BitVec 32 := 4096#32
  let v1076 : BitVec 32 := Scalar.muli v16 c4096_i32_792
  let v1077 : BitVec 32 := Scalar.addi v1076 c0_i32_793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![v1077.toNat, v24.toNat]
def k0_off21 (d0 : Dev nD) (c0_i32_1119 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_1118 : BitVec 32 := 4096#32
  let v1406 : BitVec 32 := Scalar.muli v16 c4096_i32_1118
  let v1407 : BitVec 32 := Scalar.addi v1406 c0_i32_1119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c896_i32_15 : BitVec 32 := 896#32
  let v27 : BitVec 32 := Scalar.muli v8 c896_i32_15
  ![v1407.toNat, v27.toNat]
def k0_dev52 (d0 : Dev nD) : Nat :=
  let c0_i32_1123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1122 : BitVec 32 := 4#32
  let v1408 : BitVec 32 := Scalar.muli v2 c4_i32_1122
  let v1409 : BitVec 32 := Scalar.addi c0_i32_1123 v1408
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1124 : BitVec 32 := 2#32
  let v1410 : BitVec 32 := Scalar.muli v5 c2_i32_1124
  let v1411 : BitVec 32 := Scalar.addi v1409 v1410
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1125 : BitVec 32 := 1#32
  let v1412 : BitVec 32 := Scalar.muli v9 c1_i32_1125
  let v1413 : BitVec 32 := Scalar.addi v1411 v1412
  v1413.toNat
def k0_off22 (d0 : Dev nD) (c0_i32_857 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_856 : BitVec 32 := 4096#32
  let v1140 : BitVec 32 := Scalar.muli v19 c4096_i32_856
  let v1141 : BitVec 32 := Scalar.addi v1140 c0_i32_857
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v24 : BitVec 32 := Scalar.muli v8 c128_i32
  ![v1141.toNat, v24.toNat]
def k0_off23 (d0 : Dev nD) (c0_i32_1135 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_1134 : BitVec 32 := 4096#32
  let v1432 : BitVec 32 := Scalar.muli v19 c4096_i32_1134
  let v1433 : BitVec 32 := Scalar.addi v1432 c0_i32_1135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c896_i32_15 : BitVec 32 := 896#32
  let v27 : BitVec 32 := Scalar.muli v8 c896_i32_15
  ![v1433.toNat, v27.toNat]
def k0_dev53 (d0 : Dev nD) : Nat :=
  let c0_i32_1139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1138 : BitVec 32 := 4#32
  let v1434 : BitVec 32 := Scalar.muli v2 c4_i32_1138
  let v1435 : BitVec 32 := Scalar.addi c0_i32_1139 v1434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1140 : BitVec 32 := 2#32
  let v1436 : BitVec 32 := Scalar.muli v5 c2_i32_1140
  let v1437 : BitVec 32 := Scalar.addi v1435 v1436
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1141 : BitVec 32 := 1#32
  let v1438 : BitVec 32 := Scalar.muli v9 c1_i32_1141
  let v1439 : BitVec 32 := Scalar.addi v1437 v1438
  v1439.toNat
def k0_off24 (d0 : Dev nD) (c0_i32_985 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_984 : BitVec 32 := 4096#32
  let v1268 : BitVec 32 := Scalar.muli v19 c4096_i32_984
  let v1269 : BitVec 32 := Scalar.addi v1268 c0_i32_985
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c896_i32 : BitVec 32 := 896#32
  let v26 : BitVec 32 := Scalar.muli v25 c896_i32
  ![v1269.toNat, v26.toNat]
def k0_off25 (d0 : Dev nD) (c0_i32_1151 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_1150 : BitVec 32 := 4096#32
  let v1458 : BitVec 32 := Scalar.muli v19 c4096_i32_1150
  let v1459 : BitVec 32 := Scalar.addi v1458 c0_i32_1151
  let c0_i32_1158 : BitVec 32 := 0#32
  ![v1459.toNat, 0]
def k0_dev54 (d0 : Dev nD) : Nat :=
  let c0_i32_1155 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1154 : BitVec 32 := 4#32
  let v1460 : BitVec 32 := Scalar.muli v10 c4_i32_1154
  let v1461 : BitVec 32 := Scalar.addi c0_i32_1155 v1460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1156 : BitVec 32 := 2#32
  let v1462 : BitVec 32 := Scalar.muli v5 c2_i32_1156
  let v1463 : BitVec 32 := Scalar.addi v1461 v1462
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1157 : BitVec 32 := 1#32
  let v1464 : BitVec 32 := Scalar.muli v8 c1_i32_1157
  let v1465 : BitVec 32 := Scalar.addi v1463 v1464
  v1465.toNat
def k0_dev55 (d0 : Dev nD) : Nat :=
  let c0_i32_1173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1172 : BitVec 32 := 4#32
  let v1486 : BitVec 32 := Scalar.muli v2 c4_i32_1172
  let v1487 : BitVec 32 := Scalar.addi c0_i32_1173 v1486
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1174 : BitVec 32 := 2#32
  let v1488 : BitVec 32 := Scalar.muli v5 c2_i32_1174
  let v1489 : BitVec 32 := Scalar.addi v1487 v1488
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1175 : BitVec 32 := 1#32
  let v1490 : BitVec 32 := Scalar.muli v9 c1_i32_1175
  let v1491 : BitVec 32 := Scalar.addi v1489 v1490
  v1491.toNat
def k0_off26 (d0 : Dev nD) (c256_i32_925 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_924 : BitVec 32 := 4096#32
  let v1208 : BitVec 32 := Scalar.muli v16 c4096_i32_924
  let v1209 : BitVec 32 := Scalar.addi v1208 c256_i32_925
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c896_i32 : BitVec 32 := 896#32
  let v26 : BitVec 32 := Scalar.muli v25 c896_i32
  ![v1209.toNat, v26.toNat]
def k0_off27 (d0 : Dev nD) (c256_i32_1185 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_1184 : BitVec 32 := 4096#32
  let v1510 : BitVec 32 := Scalar.muli v16 c4096_i32_1184
  let v1511 : BitVec 32 := Scalar.addi v1510 c256_i32_1185
  let c0_i32_1192 : BitVec 32 := 0#32
  ![v1511.toNat, 0]
def k0_dev56 (d0 : Dev nD) : Nat :=
  let c0_i32_1189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1188 : BitVec 32 := 4#32
  let v1512 : BitVec 32 := Scalar.muli v2 c4_i32_1188
  let v1513 : BitVec 32 := Scalar.addi c0_i32_1189 v1512
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1190 : BitVec 32 := 2#32
  let v1514 : BitVec 32 := Scalar.muli v11 c2_i32_1190
  let v1515 : BitVec 32 := Scalar.addi v1513 v1514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1191 : BitVec 32 := 1#32
  let v1516 : BitVec 32 := Scalar.muli v8 c1_i32_1191
  let v1517 : BitVec 32 := Scalar.addi v1515 v1516
  v1517.toNat
def k0_dev57 (d0 : Dev nD) : Nat :=
  let c0_i32_1207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1206 : BitVec 32 := 4#32
  let v1538 : BitVec 32 := Scalar.muli v2 c4_i32_1206
  let v1539 : BitVec 32 := Scalar.addi c0_i32_1207 v1538
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1208 : BitVec 32 := 2#32
  let v1540 : BitVec 32 := Scalar.muli v5 c2_i32_1208
  let v1541 : BitVec 32 := Scalar.addi v1539 v1540
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1209 : BitVec 32 := 1#32
  let v1542 : BitVec 32 := Scalar.muli v9 c1_i32_1209
  let v1543 : BitVec 32 := Scalar.addi v1541 v1542
  v1543.toNat
def k0_dev58 (d0 : Dev nD) : Nat :=
  let c0_i32_1223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1222 : BitVec 32 := 4#32
  let v1564 : BitVec 32 := Scalar.muli v2 c4_i32_1222
  let v1565 : BitVec 32 := Scalar.addi c0_i32_1223 v1564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1224 : BitVec 32 := 2#32
  let v1566 : BitVec 32 := Scalar.muli v5 c2_i32_1224
  let v1567 : BitVec 32 := Scalar.addi v1565 v1566
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1225 : BitVec 32 := 1#32
  let v1568 : BitVec 32 := Scalar.muli v9 c1_i32_1225
  let v1569 : BitVec 32 := Scalar.addi v1567 v1568
  v1569.toNat
def k0_dev59 (d0 : Dev nD) : Nat :=
  let c0_i32_1239 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1238 : BitVec 32 := 4#32
  let v1590 : BitVec 32 := Scalar.muli v2 c4_i32_1238
  let v1591 : BitVec 32 := Scalar.addi c0_i32_1239 v1590
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1240 : BitVec 32 := 2#32
  let v1592 : BitVec 32 := Scalar.muli v5 c2_i32_1240
  let v1593 : BitVec 32 := Scalar.addi v1591 v1592
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1241 : BitVec 32 := 1#32
  let v1594 : BitVec 32 := Scalar.muli v9 c1_i32_1241
  let v1595 : BitVec 32 := Scalar.addi v1593 v1594
  v1595.toNat
def k0_dev60 (d0 : Dev nD) : Nat :=
  let c0_i32_1255 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1254 : BitVec 32 := 4#32
  let v1616 : BitVec 32 := Scalar.muli v10 c4_i32_1254
  let v1617 : BitVec 32 := Scalar.addi c0_i32_1255 v1616
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1256 : BitVec 32 := 2#32
  let v1618 : BitVec 32 := Scalar.muli v5 c2_i32_1256
  let v1619 : BitVec 32 := Scalar.addi v1617 v1618
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1257 : BitVec 32 := 1#32
  let v1620 : BitVec 32 := Scalar.muli v8 c1_i32_1257
  let v1621 : BitVec 32 := Scalar.addi v1619 v1620
  v1621.toNat
def k0_dev61 (d0 : Dev nD) : Nat :=
  let c0_i32_1273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1272 : BitVec 32 := 4#32
  let v1642 : BitVec 32 := Scalar.muli v2 c4_i32_1272
  let v1643 : BitVec 32 := Scalar.addi c0_i32_1273 v1642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1274 : BitVec 32 := 2#32
  let v1644 : BitVec 32 := Scalar.muli v5 c2_i32_1274
  let v1645 : BitVec 32 := Scalar.addi v1643 v1644
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1275 : BitVec 32 := 1#32
  let v1646 : BitVec 32 := Scalar.muli v9 c1_i32_1275
  let v1647 : BitVec 32 := Scalar.addi v1645 v1646
  v1647.toNat
def k0_dev62 (d0 : Dev nD) : Nat :=
  let c0_i32_1289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1288 : BitVec 32 := 4#32
  let v1668 : BitVec 32 := Scalar.muli v2 c4_i32_1288
  let v1669 : BitVec 32 := Scalar.addi c0_i32_1289 v1668
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1290 : BitVec 32 := 2#32
  let v1670 : BitVec 32 := Scalar.muli v11 c2_i32_1290
  let v1671 : BitVec 32 := Scalar.addi v1669 v1670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1291 : BitVec 32 := 1#32
  let v1672 : BitVec 32 := Scalar.muli v8 c1_i32_1291
  let v1673 : BitVec 32 := Scalar.addi v1671 v1672
  v1673.toNat
def k0_dev63 (d0 : Dev nD) : Nat :=
  let c0_i32_1307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1306 : BitVec 32 := 4#32
  let v1694 : BitVec 32 := Scalar.muli v2 c4_i32_1306
  let v1695 : BitVec 32 := Scalar.addi c0_i32_1307 v1694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1308 : BitVec 32 := 2#32
  let v1696 : BitVec 32 := Scalar.muli v5 c2_i32_1308
  let v1697 : BitVec 32 := Scalar.addi v1695 v1696
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1309 : BitVec 32 := 1#32
  let v1698 : BitVec 32 := Scalar.muli v9 c1_i32_1309
  let v1699 : BitVec 32 := Scalar.addi v1697 v1698
  v1699.toNat
def k0_dev64 (d0 : Dev nD) : Nat :=
  let c0_i32_1323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1322 : BitVec 32 := 4#32
  let v1720 : BitVec 32 := Scalar.muli v2 c4_i32_1322
  let v1721 : BitVec 32 := Scalar.addi c0_i32_1323 v1720
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1324 : BitVec 32 := 2#32
  let v1722 : BitVec 32 := Scalar.muli v5 c2_i32_1324
  let v1723 : BitVec 32 := Scalar.addi v1721 v1722
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1325 : BitVec 32 := 1#32
  let v1724 : BitVec 32 := Scalar.muli v9 c1_i32_1325
  let v1725 : BitVec 32 := Scalar.addi v1723 v1724
  v1725.toNat
def k0_dev65 (d0 : Dev nD) : Nat :=
  let c0_i32_1339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1338 : BitVec 32 := 4#32
  let v1746 : BitVec 32 := Scalar.muli v2 c4_i32_1338
  let v1747 : BitVec 32 := Scalar.addi c0_i32_1339 v1746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1340 : BitVec 32 := 2#32
  let v1748 : BitVec 32 := Scalar.muli v5 c2_i32_1340
  let v1749 : BitVec 32 := Scalar.addi v1747 v1748
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1341 : BitVec 32 := 1#32
  let v1750 : BitVec 32 := Scalar.muli v9 c1_i32_1341
  let v1751 : BitVec 32 := Scalar.addi v1749 v1750
  v1751.toNat
def k0_dev66 (d0 : Dev nD) : Nat :=
  let c0_i32_1355 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1354 : BitVec 32 := 4#32
  let v1772 : BitVec 32 := Scalar.muli v10 c4_i32_1354
  let v1773 : BitVec 32 := Scalar.addi c0_i32_1355 v1772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1356 : BitVec 32 := 2#32
  let v1774 : BitVec 32 := Scalar.muli v5 c2_i32_1356
  let v1775 : BitVec 32 := Scalar.addi v1773 v1774
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1357 : BitVec 32 := 1#32
  let v1776 : BitVec 32 := Scalar.muli v8 c1_i32_1357
  let v1777 : BitVec 32 := Scalar.addi v1775 v1776
  v1777.toNat
def k0_dev67 (d0 : Dev nD) : Nat :=
  let c0_i32_1373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1372 : BitVec 32 := 4#32
  let v1798 : BitVec 32 := Scalar.muli v2 c4_i32_1372
  let v1799 : BitVec 32 := Scalar.addi c0_i32_1373 v1798
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1374 : BitVec 32 := 2#32
  let v1800 : BitVec 32 := Scalar.muli v5 c2_i32_1374
  let v1801 : BitVec 32 := Scalar.addi v1799 v1800
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1375 : BitVec 32 := 1#32
  let v1802 : BitVec 32 := Scalar.muli v9 c1_i32_1375
  let v1803 : BitVec 32 := Scalar.addi v1801 v1802
  v1803.toNat
def k0_dev68 (d0 : Dev nD) : Nat :=
  let c0_i32_1389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1388 : BitVec 32 := 4#32
  let v1824 : BitVec 32 := Scalar.muli v2 c4_i32_1388
  let v1825 : BitVec 32 := Scalar.addi c0_i32_1389 v1824
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1390 : BitVec 32 := 2#32
  let v1826 : BitVec 32 := Scalar.muli v11 c2_i32_1390
  let v1827 : BitVec 32 := Scalar.addi v1825 v1826
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1391 : BitVec 32 := 1#32
  let v1828 : BitVec 32 := Scalar.muli v8 c1_i32_1391
  let v1829 : BitVec 32 := Scalar.addi v1827 v1828
  v1829.toNat
def k0_dev69 (d0 : Dev nD) : Nat :=
  let c0_i32_1407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1406 : BitVec 32 := 4#32
  let v1850 : BitVec 32 := Scalar.muli v2 c4_i32_1406
  let v1851 : BitVec 32 := Scalar.addi c0_i32_1407 v1850
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1408 : BitVec 32 := 2#32
  let v1852 : BitVec 32 := Scalar.muli v5 c2_i32_1408
  let v1853 : BitVec 32 := Scalar.addi v1851 v1852
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1409 : BitVec 32 := 1#32
  let v1854 : BitVec 32 := Scalar.muli v9 c1_i32_1409
  let v1855 : BitVec 32 := Scalar.addi v1853 v1854
  v1855.toNat
def k0_dev70 (d0 : Dev nD) : Nat :=
  let c0_i32_1423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1422 : BitVec 32 := 4#32
  let v1876 : BitVec 32 := Scalar.muli v2 c4_i32_1422
  let v1877 : BitVec 32 := Scalar.addi c0_i32_1423 v1876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1424 : BitVec 32 := 2#32
  let v1878 : BitVec 32 := Scalar.muli v5 c2_i32_1424
  let v1879 : BitVec 32 := Scalar.addi v1877 v1878
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1425 : BitVec 32 := 1#32
  let v1880 : BitVec 32 := Scalar.muli v9 c1_i32_1425
  let v1881 : BitVec 32 := Scalar.addi v1879 v1880
  v1881.toNat
def k0_dev71 (d0 : Dev nD) : Nat :=
  let c0_i32_1439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1438 : BitVec 32 := 4#32
  let v1902 : BitVec 32 := Scalar.muli v2 c4_i32_1438
  let v1903 : BitVec 32 := Scalar.addi c0_i32_1439 v1902
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1440 : BitVec 32 := 2#32
  let v1904 : BitVec 32 := Scalar.muli v5 c2_i32_1440
  let v1905 : BitVec 32 := Scalar.addi v1903 v1904
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1441 : BitVec 32 := 1#32
  let v1906 : BitVec 32 := Scalar.muli v9 c1_i32_1441
  let v1907 : BitVec 32 := Scalar.addi v1905 v1906
  v1907.toNat
def k0_dev72 (d0 : Dev nD) : Nat :=
  let c0_i32_1455 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1454 : BitVec 32 := 4#32
  let v1928 : BitVec 32 := Scalar.muli v10 c4_i32_1454
  let v1929 : BitVec 32 := Scalar.addi c0_i32_1455 v1928
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1456 : BitVec 32 := 2#32
  let v1930 : BitVec 32 := Scalar.muli v5 c2_i32_1456
  let v1931 : BitVec 32 := Scalar.addi v1929 v1930
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1457 : BitVec 32 := 1#32
  let v1932 : BitVec 32 := Scalar.muli v8 c1_i32_1457
  let v1933 : BitVec 32 := Scalar.addi v1931 v1932
  v1933.toNat
def k0_dev73 (d0 : Dev nD) : Nat :=
  let c0_i32_1473 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1472 : BitVec 32 := 4#32
  let v1954 : BitVec 32 := Scalar.muli v2 c4_i32_1472
  let v1955 : BitVec 32 := Scalar.addi c0_i32_1473 v1954
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1474 : BitVec 32 := 2#32
  let v1956 : BitVec 32 := Scalar.muli v5 c2_i32_1474
  let v1957 : BitVec 32 := Scalar.addi v1955 v1956
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1475 : BitVec 32 := 1#32
  let v1958 : BitVec 32 := Scalar.muli v9 c1_i32_1475
  let v1959 : BitVec 32 := Scalar.addi v1957 v1958
  v1959.toNat
def k0_dev74 (d0 : Dev nD) : Nat :=
  let c0_i32_1489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1488 : BitVec 32 := 4#32
  let v1980 : BitVec 32 := Scalar.muli v2 c4_i32_1488
  let v1981 : BitVec 32 := Scalar.addi c0_i32_1489 v1980
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1490 : BitVec 32 := 2#32
  let v1982 : BitVec 32 := Scalar.muli v11 c2_i32_1490
  let v1983 : BitVec 32 := Scalar.addi v1981 v1982
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1491 : BitVec 32 := 1#32
  let v1984 : BitVec 32 := Scalar.muli v8 c1_i32_1491
  let v1985 : BitVec 32 := Scalar.addi v1983 v1984
  v1985.toNat
def k0_dev75 (d0 : Dev nD) : Nat :=
  let c0_i32_1507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1506 : BitVec 32 := 4#32
  let v2006 : BitVec 32 := Scalar.muli v2 c4_i32_1506
  let v2007 : BitVec 32 := Scalar.addi c0_i32_1507 v2006
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1508 : BitVec 32 := 2#32
  let v2008 : BitVec 32 := Scalar.muli v5 c2_i32_1508
  let v2009 : BitVec 32 := Scalar.addi v2007 v2008
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1509 : BitVec 32 := 1#32
  let v2010 : BitVec 32 := Scalar.muli v9 c1_i32_1509
  let v2011 : BitVec 32 := Scalar.addi v2009 v2010
  v2011.toNat
def k0_dev76 (d0 : Dev nD) : Nat :=
  let c0_i32_1523 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1522 : BitVec 32 := 4#32
  let v2032 : BitVec 32 := Scalar.muli v2 c4_i32_1522
  let v2033 : BitVec 32 := Scalar.addi c0_i32_1523 v2032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1524 : BitVec 32 := 2#32
  let v2034 : BitVec 32 := Scalar.muli v5 c2_i32_1524
  let v2035 : BitVec 32 := Scalar.addi v2033 v2034
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1525 : BitVec 32 := 1#32
  let v2036 : BitVec 32 := Scalar.muli v9 c1_i32_1525
  let v2037 : BitVec 32 := Scalar.addi v2035 v2036
  v2037.toNat
def k0_dev77 (d0 : Dev nD) : Nat :=
  let c0_i32_1539 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1538 : BitVec 32 := 4#32
  let v2058 : BitVec 32 := Scalar.muli v2 c4_i32_1538
  let v2059 : BitVec 32 := Scalar.addi c0_i32_1539 v2058
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1540 : BitVec 32 := 2#32
  let v2060 : BitVec 32 := Scalar.muli v5 c2_i32_1540
  let v2061 : BitVec 32 := Scalar.addi v2059 v2060
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1541 : BitVec 32 := 1#32
  let v2062 : BitVec 32 := Scalar.muli v9 c1_i32_1541
  let v2063 : BitVec 32 := Scalar.addi v2061 v2062
  v2063.toNat
def k0_dev78 (d0 : Dev nD) : Nat :=
  let c0_i32_1555 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1554 : BitVec 32 := 4#32
  let v2084 : BitVec 32 := Scalar.muli v10 c4_i32_1554
  let v2085 : BitVec 32 := Scalar.addi c0_i32_1555 v2084
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1556 : BitVec 32 := 2#32
  let v2086 : BitVec 32 := Scalar.muli v5 c2_i32_1556
  let v2087 : BitVec 32 := Scalar.addi v2085 v2086
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1557 : BitVec 32 := 1#32
  let v2088 : BitVec 32 := Scalar.muli v8 c1_i32_1557
  let v2089 : BitVec 32 := Scalar.addi v2087 v2088
  v2089.toNat
def k0_dev79 (d0 : Dev nD) : Nat :=
  let c0_i32_1573 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1572 : BitVec 32 := 4#32
  let v2110 : BitVec 32 := Scalar.muli v2 c4_i32_1572
  let v2111 : BitVec 32 := Scalar.addi c0_i32_1573 v2110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1574 : BitVec 32 := 2#32
  let v2112 : BitVec 32 := Scalar.muli v5 c2_i32_1574
  let v2113 : BitVec 32 := Scalar.addi v2111 v2112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1575 : BitVec 32 := 1#32
  let v2114 : BitVec 32 := Scalar.muli v9 c1_i32_1575
  let v2115 : BitVec 32 := Scalar.addi v2113 v2114
  v2115.toNat
def k0_dev80 (d0 : Dev nD) : Nat :=
  let c0_i32_1589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1588 : BitVec 32 := 4#32
  let v2136 : BitVec 32 := Scalar.muli v2 c4_i32_1588
  let v2137 : BitVec 32 := Scalar.addi c0_i32_1589 v2136
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1590 : BitVec 32 := 2#32
  let v2138 : BitVec 32 := Scalar.muli v11 c2_i32_1590
  let v2139 : BitVec 32 := Scalar.addi v2137 v2138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1591 : BitVec 32 := 1#32
  let v2140 : BitVec 32 := Scalar.muli v8 c1_i32_1591
  let v2141 : BitVec 32 := Scalar.addi v2139 v2140
  v2141.toNat
def k0_dev81 (d0 : Dev nD) : Nat :=
  let c0_i32_1607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1606 : BitVec 32 := 4#32
  let v2162 : BitVec 32 := Scalar.muli v2 c4_i32_1606
  let v2163 : BitVec 32 := Scalar.addi c0_i32_1607 v2162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1608 : BitVec 32 := 2#32
  let v2164 : BitVec 32 := Scalar.muli v5 c2_i32_1608
  let v2165 : BitVec 32 := Scalar.addi v2163 v2164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1609 : BitVec 32 := 1#32
  let v2166 : BitVec 32 := Scalar.muli v9 c1_i32_1609
  let v2167 : BitVec 32 := Scalar.addi v2165 v2166
  v2167.toNat
def k0_dev82 (d0 : Dev nD) : Nat :=
  let c0_i32_1623 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1622 : BitVec 32 := 4#32
  let v2188 : BitVec 32 := Scalar.muli v2 c4_i32_1622
  let v2189 : BitVec 32 := Scalar.addi c0_i32_1623 v2188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1624 : BitVec 32 := 2#32
  let v2190 : BitVec 32 := Scalar.muli v5 c2_i32_1624
  let v2191 : BitVec 32 := Scalar.addi v2189 v2190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1625 : BitVec 32 := 1#32
  let v2192 : BitVec 32 := Scalar.muli v9 c1_i32_1625
  let v2193 : BitVec 32 := Scalar.addi v2191 v2192
  v2193.toNat
def k0_dev83 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v2214 : BitVec 32 := Scalar.muli v2 c4_i32_1638
  let v2215 : BitVec 32 := Scalar.addi c0_i32_1639 v2214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v2216 : BitVec 32 := Scalar.muli v5 c2_i32_1640
  let v2217 : BitVec 32 := Scalar.addi v2215 v2216
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1641 : BitVec 32 := 1#32
  let v2218 : BitVec 32 := Scalar.muli v9 c1_i32_1641
  let v2219 : BitVec 32 := Scalar.addi v2217 v2218
  v2219.toNat
def k0_dev84 (d0 : Dev nD) : Nat :=
  let c0_i32_1655 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1654 : BitVec 32 := 4#32
  let v2240 : BitVec 32 := Scalar.muli v10 c4_i32_1654
  let v2241 : BitVec 32 := Scalar.addi c0_i32_1655 v2240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1656 : BitVec 32 := 2#32
  let v2242 : BitVec 32 := Scalar.muli v5 c2_i32_1656
  let v2243 : BitVec 32 := Scalar.addi v2241 v2242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1657 : BitVec 32 := 1#32
  let v2244 : BitVec 32 := Scalar.muli v8 c1_i32_1657
  let v2245 : BitVec 32 := Scalar.addi v2243 v2244
  v2245.toNat
def k0_dev85 (d0 : Dev nD) : Nat :=
  let c0_i32_1673 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1672 : BitVec 32 := 4#32
  let v2266 : BitVec 32 := Scalar.muli v2 c4_i32_1672
  let v2267 : BitVec 32 := Scalar.addi c0_i32_1673 v2266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1674 : BitVec 32 := 2#32
  let v2268 : BitVec 32 := Scalar.muli v5 c2_i32_1674
  let v2269 : BitVec 32 := Scalar.addi v2267 v2268
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1675 : BitVec 32 := 1#32
  let v2270 : BitVec 32 := Scalar.muli v9 c1_i32_1675
  let v2271 : BitVec 32 := Scalar.addi v2269 v2270
  v2271.toNat
def k0_dev86 (d0 : Dev nD) : Nat :=
  let c0_i32_1689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1688 : BitVec 32 := 4#32
  let v2292 : BitVec 32 := Scalar.muli v2 c4_i32_1688
  let v2293 : BitVec 32 := Scalar.addi c0_i32_1689 v2292
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1690 : BitVec 32 := 2#32
  let v2294 : BitVec 32 := Scalar.muli v11 c2_i32_1690
  let v2295 : BitVec 32 := Scalar.addi v2293 v2294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1691 : BitVec 32 := 1#32
  let v2296 : BitVec 32 := Scalar.muli v8 c1_i32_1691
  let v2297 : BitVec 32 := Scalar.addi v2295 v2296
  v2297.toNat
def k0_dev87 (d0 : Dev nD) : Nat :=
  let c0_i32_1707 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1706 : BitVec 32 := 4#32
  let v2318 : BitVec 32 := Scalar.muli v2 c4_i32_1706
  let v2319 : BitVec 32 := Scalar.addi c0_i32_1707 v2318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1708 : BitVec 32 := 2#32
  let v2320 : BitVec 32 := Scalar.muli v5 c2_i32_1708
  let v2321 : BitVec 32 := Scalar.addi v2319 v2320
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1709 : BitVec 32 := 1#32
  let v2322 : BitVec 32 := Scalar.muli v9 c1_i32_1709
  let v2323 : BitVec 32 := Scalar.addi v2321 v2322
  v2323.toNat
def k0_dev88 (d0 : Dev nD) : Nat :=
  let c0_i32_1723 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1722 : BitVec 32 := 4#32
  let v2344 : BitVec 32 := Scalar.muli v2 c4_i32_1722
  let v2345 : BitVec 32 := Scalar.addi c0_i32_1723 v2344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1724 : BitVec 32 := 2#32
  let v2346 : BitVec 32 := Scalar.muli v5 c2_i32_1724
  let v2347 : BitVec 32 := Scalar.addi v2345 v2346
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1725 : BitVec 32 := 1#32
  let v2348 : BitVec 32 := Scalar.muli v9 c1_i32_1725
  let v2349 : BitVec 32 := Scalar.addi v2347 v2348
  v2349.toNat
def k0_dev89 (d0 : Dev nD) : Nat :=
  let c0_i32_1739 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1738 : BitVec 32 := 4#32
  let v2370 : BitVec 32 := Scalar.muli v2 c4_i32_1738
  let v2371 : BitVec 32 := Scalar.addi c0_i32_1739 v2370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1740 : BitVec 32 := 2#32
  let v2372 : BitVec 32 := Scalar.muli v5 c2_i32_1740
  let v2373 : BitVec 32 := Scalar.addi v2371 v2372
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1741 : BitVec 32 := 1#32
  let v2374 : BitVec 32 := Scalar.muli v9 c1_i32_1741
  let v2375 : BitVec 32 := Scalar.addi v2373 v2374
  v2375.toNat
def k0_dev90 (d0 : Dev nD) : Nat :=
  let c0_i32_1755 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1754 : BitVec 32 := 4#32
  let v2396 : BitVec 32 := Scalar.muli v10 c4_i32_1754
  let v2397 : BitVec 32 := Scalar.addi c0_i32_1755 v2396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1756 : BitVec 32 := 2#32
  let v2398 : BitVec 32 := Scalar.muli v5 c2_i32_1756
  let v2399 : BitVec 32 := Scalar.addi v2397 v2398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1757 : BitVec 32 := 1#32
  let v2400 : BitVec 32 := Scalar.muli v8 c1_i32_1757
  let v2401 : BitVec 32 := Scalar.addi v2399 v2400
  v2401.toNat
def k0_dev91 (d0 : Dev nD) : Nat :=
  let c0_i32_1773 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1772 : BitVec 32 := 4#32
  let v2422 : BitVec 32 := Scalar.muli v2 c4_i32_1772
  let v2423 : BitVec 32 := Scalar.addi c0_i32_1773 v2422
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1774 : BitVec 32 := 2#32
  let v2424 : BitVec 32 := Scalar.muli v5 c2_i32_1774
  let v2425 : BitVec 32 := Scalar.addi v2423 v2424
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1775 : BitVec 32 := 1#32
  let v2426 : BitVec 32 := Scalar.muli v9 c1_i32_1775
  let v2427 : BitVec 32 := Scalar.addi v2425 v2426
  v2427.toNat
def k0_dev92 (d0 : Dev nD) : Nat :=
  let c0_i32_1789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1788 : BitVec 32 := 4#32
  let v2448 : BitVec 32 := Scalar.muli v2 c4_i32_1788
  let v2449 : BitVec 32 := Scalar.addi c0_i32_1789 v2448
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1790 : BitVec 32 := 2#32
  let v2450 : BitVec 32 := Scalar.muli v11 c2_i32_1790
  let v2451 : BitVec 32 := Scalar.addi v2449 v2450
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1791 : BitVec 32 := 1#32
  let v2452 : BitVec 32 := Scalar.muli v8 c1_i32_1791
  let v2453 : BitVec 32 := Scalar.addi v2451 v2452
  v2453.toNat
def k0_dev93 (d0 : Dev nD) : Nat :=
  let c0_i32_1807 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1806 : BitVec 32 := 4#32
  let v2474 : BitVec 32 := Scalar.muli v2 c4_i32_1806
  let v2475 : BitVec 32 := Scalar.addi c0_i32_1807 v2474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1808 : BitVec 32 := 2#32
  let v2476 : BitVec 32 := Scalar.muli v5 c2_i32_1808
  let v2477 : BitVec 32 := Scalar.addi v2475 v2476
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1809 : BitVec 32 := 1#32
  let v2478 : BitVec 32 := Scalar.muli v9 c1_i32_1809
  let v2479 : BitVec 32 := Scalar.addi v2477 v2478
  v2479.toNat
def k0_dev94 (d0 : Dev nD) : Nat :=
  let c0_i32_1823 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1822 : BitVec 32 := 4#32
  let v2500 : BitVec 32 := Scalar.muli v2 c4_i32_1822
  let v2501 : BitVec 32 := Scalar.addi c0_i32_1823 v2500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1824 : BitVec 32 := 2#32
  let v2502 : BitVec 32 := Scalar.muli v5 c2_i32_1824
  let v2503 : BitVec 32 := Scalar.addi v2501 v2502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1825 : BitVec 32 := 1#32
  let v2504 : BitVec 32 := Scalar.muli v9 c1_i32_1825
  let v2505 : BitVec 32 := Scalar.addi v2503 v2504
  v2505.toNat
def k0_dev95 (d0 : Dev nD) : Nat :=
  let c0_i32_1839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1838 : BitVec 32 := 4#32
  let v2526 : BitVec 32 := Scalar.muli v2 c4_i32_1838
  let v2527 : BitVec 32 := Scalar.addi c0_i32_1839 v2526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1840 : BitVec 32 := 2#32
  let v2528 : BitVec 32 := Scalar.muli v5 c2_i32_1840
  let v2529 : BitVec 32 := Scalar.addi v2527 v2528
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1841 : BitVec 32 := 1#32
  let v2530 : BitVec 32 := Scalar.muli v9 c1_i32_1841
  let v2531 : BitVec 32 := Scalar.addi v2529 v2530
  v2531.toNat
def k0_dev96 (d0 : Dev nD) : Nat :=
  let c0_i32_1855 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1854 : BitVec 32 := 4#32
  let v2552 : BitVec 32 := Scalar.muli v10 c4_i32_1854
  let v2553 : BitVec 32 := Scalar.addi c0_i32_1855 v2552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1856 : BitVec 32 := 2#32
  let v2554 : BitVec 32 := Scalar.muli v5 c2_i32_1856
  let v2555 : BitVec 32 := Scalar.addi v2553 v2554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1857 : BitVec 32 := 1#32
  let v2556 : BitVec 32 := Scalar.muli v8 c1_i32_1857
  let v2557 : BitVec 32 := Scalar.addi v2555 v2556
  v2557.toNat
def k0_dev97 (d0 : Dev nD) : Nat :=
  let c0_i32_1873 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1872 : BitVec 32 := 4#32
  let v2578 : BitVec 32 := Scalar.muli v2 c4_i32_1872
  let v2579 : BitVec 32 := Scalar.addi c0_i32_1873 v2578
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1874 : BitVec 32 := 2#32
  let v2580 : BitVec 32 := Scalar.muli v5 c2_i32_1874
  let v2581 : BitVec 32 := Scalar.addi v2579 v2580
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1875 : BitVec 32 := 1#32
  let v2582 : BitVec 32 := Scalar.muli v9 c1_i32_1875
  let v2583 : BitVec 32 := Scalar.addi v2581 v2582
  v2583.toNat
def k0_dev98 (d0 : Dev nD) : Nat :=
  let c0_i32_1889 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1888 : BitVec 32 := 4#32
  let v2604 : BitVec 32 := Scalar.muli v2 c4_i32_1888
  let v2605 : BitVec 32 := Scalar.addi c0_i32_1889 v2604
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1890 : BitVec 32 := 2#32
  let v2606 : BitVec 32 := Scalar.muli v11 c2_i32_1890
  let v2607 : BitVec 32 := Scalar.addi v2605 v2606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1891 : BitVec 32 := 1#32
  let v2608 : BitVec 32 := Scalar.muli v8 c1_i32_1891
  let v2609 : BitVec 32 := Scalar.addi v2607 v2608
  v2609.toNat
def k0_dev99 (d0 : Dev nD) : Nat :=
  let c0_i32_1907 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1906 : BitVec 32 := 4#32
  let v2630 : BitVec 32 := Scalar.muli v2 c4_i32_1906
  let v2631 : BitVec 32 := Scalar.addi c0_i32_1907 v2630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1908 : BitVec 32 := 2#32
  let v2632 : BitVec 32 := Scalar.muli v5 c2_i32_1908
  let v2633 : BitVec 32 := Scalar.addi v2631 v2632
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1909 : BitVec 32 := 1#32
  let v2634 : BitVec 32 := Scalar.muli v9 c1_i32_1909
  let v2635 : BitVec 32 := Scalar.addi v2633 v2634
  v2635.toNat
def k0_off28 (d0 : Dev nD) (c0_i32_1049 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c4096_i32_1048 : BitVec 32 := 4096#32
  let v1332 : BitVec 32 := Scalar.muli v23 c4096_i32_1048
  let v1333 : BitVec 32 := Scalar.addi v1332 c0_i32_1049
  let c0_i32_1922 : BitVec 32 := 0#32
  ![v1333.toNat, 0]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/- The kernel's body written as loops over the chunk number, and the fact that it is the printed body. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.AllReduce

open Cert.KernelIdeal Cert.KernelIdeal.Gen
open Idealize.ShloMosaic Idealize.ShloMosaic.TcCoe Idealize.SL.Sem

variable {F : FTy → Type} [FloatOps F]

/-- Programs of one device's TensorCore. -/
abbrev TcProg (F : FTy → Type) [FloatOps F] (α : Type) := Prog (TpuEff nD τ sig (Elt F) Λ₀ .tc) α

/-! ## The three neighbours of a device -/

/-- The neighbour along z. -/
def zn (d : Dev nD) : Dev nD := ⟨k0_dev1 d, k0_dev1_lt d⟩
/-- The neighbour along x. -/
def xn (d : Dev nD) : Dev nD := ⟨k0_dev2 d, k0_dev2_lt d⟩
/-- The neighbour along y. -/
def yn (d : Dev nD) : Dev nD := ⟨k0_dev3 d, k0_dev3_lt d⟩

/-! ## Rectangles -/

/-- The word of chunk `k`'s first row. -/
abbrev cw (k : Fin 16) : BitVec 32 := BitVec.ofNat 32 (256 * k.val)
/-- Chunk `k`'s offsets in a block of 4096 rows. -/
abbrev ckOff (k : Fin 16) : Fin 2 → ℕ := ![256 * k.val, 0]
/-- The offsets, in a block of 4096 rows, of chunk `k`'s columns that travel along x and y. -/
abbrev rdOff (d : Dev nD) (k : Fin 16) : Fin 2 → ℕ := ![256 * k.val, k0_off4 d 1]

theorem ck_inb : ∀ (k : Fin 16) (a), ckOff k a + S256x1024.size a ≤ S4096x1024.size a := by decide +kernel
theorem rd_inb : ∀ (d : Dev nD) (k : Fin 16) (a), rdOff d k a + S256x896.size a ≤ S4096x1024.size a := by
  decide +kernel
theorem ry_inb : ∀ (d : Dev nD) (k : Fin 16) (a),
    k0_off25 d (cw k) a + S256x1024.size a ≤ S16384x1024.size a := by decide +kernel
theorem rx_inb : ∀ (d : Dev nD) (k : Fin 16) (a),
    k0_off27 d (cw k) a + S256x1024.size a ≤ S16384x1024.size a := by decide +kernel
theorem sem_inb : ∀ (k : Fin 16) (a), (![k.val] : Fin 1 → ℕ) a + S1.size a ≤ S16.size a := by decide +kernel

/-- The `k`-th semaphore of an array of sixteen. -/
abbrev semAt (a : DmaSems sig S16) (k : Fin 16) : DmaSem sig :=
  ((a.slice (Rect.unit (s := S16) ![k.val] S1.size (sem_inb k))).squeeze S_ squeezes_S1_S_).sem

/-! ## Views -/

abbrev xM : Memref sig .tc .hbm S16384x1024 .f32 := Memref.whole main_arg0
abbrev outM : Memref sig .tc .hbm S16384x1024 .f32 := Memref.whole main_v1
abbrev zrM : Memref sig .tc .vmem S4096x1024 .f32 := Memref.whole cc0_scratch0
abbrev arM : Memref sig .tc .vmem S4096x1024 .f32 := Memref.whole cc0_scratch1
abbrev rdM : Memref sig .tc .vmem S4096x1024 .f32 := Memref.whole cc0_scratch2

/-- A rectangle of 256 rows and 1024 columns of a block of 4096 rows, of an array of 16384 rows. -/
abbrev big1024 (m : Memref sig .tc .hbm S16384x1024 .f32) (off : Fin 2 → ℕ)
    (h : ∀ a, off a + S256x1024.size a ≤ S16384x1024.size a) : Memref sig .tc .hbm S256x1024 .f32 :=
  m.slice (Rect.unit (s := S16384x1024) off S256x1024.size h) (fun _ => rfl)
abbrev big896 (m : Memref sig .tc .hbm S16384x1024 .f32) (off : Fin 2 → ℕ)
    (h : ∀ a, off a + S256x896.size a ≤ S16384x1024.size a) : Memref sig .tc .hbm S256x896 .f32 :=
  m.slice (Rect.unit (s := S16384x1024) off S256x896.size h) (fun _ => rfl)
abbrev big128 (m : Memref sig .tc .hbm S16384x1024 .f32) (off : Fin 2 → ℕ)
    (h : ∀ a, off a + S256x128.size a ≤ S16384x1024.size a) : Memref sig .tc .hbm S256x128 .f32 :=
  m.slice (Rect.unit (s := S16384x1024) off S256x128.size h) (fun _ => rfl)
abbrev small1024 (m : Memref sig .tc .vmem S4096x1024 .f32) (off : Fin 2 → ℕ)
    (h : ∀ a, off a + S256x1024.size a ≤ S4096x1024.size a) : Memref sig .tc .vmem S256x1024 .f32 :=
  m.slice (Rect.unit (s := S4096x1024) off S256x1024.size h) (fun _ => rfl)
abbrev small896 (m : Memref sig .tc .vmem S4096x1024 .f32) (off : Fin 2 → ℕ)
    (h : ∀ a, off a + S256x896.size a ≤ S4096x1024.size a) : Memref sig .tc .vmem S256x896 .f32 :=
  m.slice (Rect.unit (s := S4096x1024) off S256x896.size h) (fun _ => rfl)

/-- Chunk `k` of the device's own block of its argument. -/
abbrev xChunk (d : Dev nD) (k : Fin 16) := big1024 xM (k0_off1 d (cw k)) (k0_off1_inb d k)
/-- The device's own block of its argument. -/
abbrev xBlock (d : Dev nD) : Memref sig .tc .hbm S4096x1024 .f32 :=
  xM.slice (Rect.unit (s := S16384x1024) (k0_off2 d) S4096x1024.size (k0_off2_inb d)) (fun _ => rfl)
/-- Chunk `k` of the buffer that receives along z. -/
abbrev zrChunk (k : Fin 16) := small1024 zrM (ckOff k) (ck_inb k)
/-- Chunk `k` of the buffer of sums. -/
abbrev rdChunk (k : Fin 16) := small1024 rdM (ckOff k) (ck_inb k)
/-- The columns of chunk `k` of the buffer of sums that travel along x and y. -/
abbrev rdDir (d : Dev nD) (k : Fin 16) := small896 rdM (rdOff d k) (rd_inb d k)
/-- Chunk `k` of the device's own block of the result. -/
abbrev outOwn (d : Dev nD) (k : Fin 16) := big1024 outM (k0_off1 d (cw k)) (k0_off1_inb d k)
/-- Of that, the columns that travel along x and y. -/
abbrev outDir (d : Dev nD) (k : Fin 16) := big896 outM (k0_off3 d (cw k)) (k0_off3_inb d k)
/-- What arrives along x. -/
abbrev xIn (d : Dev nD) (k : Fin 16) := big896 outM (k0_off20 d (cw k)) (k0_off20_inb d k)
/-- What of the x neighbour's block is forwarded along z. -/
abbrev fxOut (d : Dev nD) (k : Fin 16) := big128 outM (k0_off21 d (cw k)) (k0_off21_inb d k)
/-- What arrives along y. -/
abbrev yIn (d : Dev nD) (k : Fin 16) := big896 outM (k0_off22 d (cw k)) (k0_off22_inb d k)
/-- What of the y neighbour's block is forwarded along z. -/
abbrev fyOut (d : Dev nD) (k : Fin 16) := big128 outM (k0_off23 d (cw k)) (k0_off23_inb d k)
/-- What of the y neighbour's block arrives forwarded along z. -/
abbrev fyIn (d : Dev nD) (k : Fin 16) := big128 outM (k0_off24 d (cw k)) (k0_off24_inb d k)
/-- What of the x neighbour's block arrives forwarded along z. -/
abbrev fxIn (d : Dev nD) (k : Fin 16) := big128 outM (k0_off26 d (cw k)) (k0_off26_inb d k)
/-- Chunk `k` of the y neighbour's block. -/
abbrev ryFull (d : Dev nD) (k : Fin 16) := big1024 outM (k0_off25 d (cw k)) (ry_inb d k)
/-- Chunk `k` of the x neighbour's block. -/
abbrev rxFull (d : Dev nD) (k : Fin 16) := big1024 outM (k0_off27 d (cw k)) (rx_inb d k)
/-- Chunk `k` of the opposite device's block. -/
abbrev dIn (d : Dev nD) (k : Fin 16) := big1024 outM (k0_off28 d (cw k)) (k0_off28_inb d k)

/-! ## Steps -/

/-- Wait on `sem` for what a copy into `dst` pays. -/
abbrev await {sp sp' : Space} {s s' : Shape} (sem : DmaSem sig) (src : Memref sig .tc sp s .f32)
    (dst : Memref sig .tc sp' s' .f32) (hs : src.view.WordExact) (hd : dst.view.WordExact) : TcProg F PUnit :=
  Prog.lift (.waitDma2 sem src dst hs hd)

/-- The rectangle of chunk `k`. -/
abbrev ckRect (k : Fin 16) : Rect S4096x1024 := Rect.unit (s := S4096x1024) (ckOff k) S256x1024.size (ck_inb k)

/-- Run `f` at the last `n` of sixteen chunk numbers, in order. -/
def loopFrom (f : Fin 16 → TcProg F PUnit) : ℕ → TcProg F PUnit
  | 0 => pure ⟨⟩
  | n + 1 => f ⟨15 - n, by omega⟩ >>= fun _ => loopFrom f n

/-- Send chunk `k` of the argument along z. -/
abbrev zSend (d : Dev nD) (k : Fin 16) : TcProg F PUnit :=
  Prog.lift (.enqueueDma (xChunk d k) (.remote (Dev.tc (zn d)) (zrChunk k) (.dma (semAt cc0_scratch3 k)))
    (.dma (semAt cc0_scratch4 k)) (View.wordExact_bits rfl) (View.wordExact_bits rfl) ⟨⟨rfl, Or.inl rfl⟩, trivial⟩)

/-- Copy the device's own block of the argument into its scratch. -/
abbrev cpRaw (d : Dev nD) : TcProg F PUnit :=
  Prog.lift (.enqueueDma (xBlock d) (.here arM) (.dma cc0_scratch17.sem) (View.wordExact_bits rfl)
    (Memref.isWhole_whole cc0_scratch1).wordExact ⟨Or.inl rfl, trivial⟩)

/-- Send chunk `k` of the sums along x. -/
abbrev xSend (d : Dev nD) (k : Fin 16) : TcProg F PUnit :=
  Prog.lift (.enqueueDma (rdDir d k) (.remote (Dev.tc (xn d)) (outDir d k) (.dma (semAt cc0_scratch5 k)))
    (.dma (semAt cc0_scratch6 k)) (View.wordExact_bits rfl) (View.wordExact_bits rfl) ⟨⟨rfl, Or.inl rfl⟩, trivial⟩)
/-- Send chunk `k` of the sums along y. -/
abbrev ySend (d : Dev nD) (k : Fin 16) : TcProg F PUnit :=
  Prog.lift (.enqueueDma (rdDir d k) (.remote (Dev.tc (yn d)) (outDir d k) (.dma (semAt cc0_scratch7 k)))
    (.dma (semAt cc0_scratch8 k)) (View.wordExact_bits rfl) (View.wordExact_bits rfl) ⟨⟨rfl, Or.inl rfl⟩, trivial⟩)
/-- Copy chunk `k` of the sums into the result. -/
abbrev coCopy (d : Dev nD) (k : Fin 16) : TcProg F PUnit :=
  Prog.lift (.enqueueDma (rdChunk k) (.here (outOwn d k)) (.dma (semAt cc0_scratch18 k)) (View.wordExact_bits rfl)
    (View.wordExact_bits rfl) ⟨Or.inl rfl, trivial⟩)

/-- Before the first chunk: wait for the copy of the device's own block. -/
def cpAwait (d : Dev nD) (k : Fin 16) : TcProg F PUnit :=
  if k.val = 0 then
    await cc0_scratch17.sem (xBlock d) arM (View.wordExact_bits rfl) (Memref.isWhole_whole cc0_scratch1).wordExact
  else pure ⟨⟩

/-- Chunk `k` of the sums: wait for it along z, add, and send it on. -/
def step1 (d : Dev nD) (k : Fin 16) : TcProg F PUnit := do
  await (semAt cc0_scratch4 k) (xChunk d k) (zrChunk k) (View.wordExact_bits rfl) (View.wordExact_bits rfl)
  cpAwait d k
  let a : Vec F S256x1024 .f32 ← Prog.lift (.load arM (ckRect k).toLoadRect (View.loadsAt_vmem h_S256x1024))
  let b : Vec F S256x1024 .f32 ← Prog.lift (.load zrM (ckRect k).toLoadRect (View.loadsAt_vmem h_S256x1024))
  let _ : Vec F S256x1024 .f32 ← Prog.lift (.load rdM (ckRect k).toLoadRect (View.loadsAt_vmem h_S256x1024))
  Prog.lift (.store rdM (ckRect k) (k0_pay1 a b) Finset.univ (View.stores_vmem_bits_univ h_S256x1024 rfl) (.inl rfl))
  xSend d k
  ySend d k
  coCopy d k

/-- Forward to the z neighbour the columns of the x neighbour's chunk it misses. -/
abbrev fxSend (d : Dev nD) (k : Fin 16) : TcProg F PUnit :=
  Prog.lift (.enqueueDma (fxOut d k) (.remote (Dev.tc (zn d)) (fxOut d k) (.dma (semAt cc0_scratch13 k)))
    (.dma (semAt cc0_scratch14 k)) (View.wordExact_bits rfl) (View.wordExact_bits rfl) ⟨⟨rfl, Or.inl rfl⟩, trivial⟩)
/-- Forward to the z neighbour the columns of the y neighbour's chunk it misses. -/
abbrev fySend (d : Dev nD) (k : Fin 16) : TcProg F PUnit :=
  Prog.lift (.enqueueDma (fyOut d k) (.remote (Dev.tc (zn d)) (fyOut d k) (.dma (semAt cc0_scratch15 k)))
    (.dma (semAt cc0_scratch16 k)) (View.wordExact_bits rfl) (View.wordExact_bits rfl) ⟨⟨rfl, Or.inl rfl⟩, trivial⟩)
/-- Relay the y neighbour's chunk along x. -/
abbrev rxSend (d : Dev nD) (k : Fin 16) : TcProg F PUnit :=
  Prog.lift (.enqueueDma (ryFull d k) (.remote (Dev.tc (xn d)) (ryFull d k) (.dma (semAt cc0_scratch9 k)))
    (.dma (semAt cc0_scratch10 k)) (View.wordExact_bits rfl) (View.wordExact_bits rfl) ⟨⟨rfl, Or.inl rfl⟩, trivial⟩)
/-- Relay the x neighbour's chunk along y. -/
abbrev rySend (d : Dev nD) (k : Fin 16) : TcProg F PUnit :=
  Prog.lift (.enqueueDma (rxFull d k) (.remote (Dev.tc (yn d)) (rxFull d k) (.dma (semAt cc0_scratch11 k)))
    (.dma (semAt cc0_scratch12 k)) (View.wordExact_bits rfl) (View.wordExact_bits rfl) ⟨⟨rfl, Or.inl rfl⟩, trivial⟩)

/-- Wait for the forwarded columns of the x neighbour's chunk. -/
abbrev fxAwait (d : Dev nD) (k : Fin 16) : TcProg F PUnit :=
  await (semAt cc0_scratch14 k) (fxIn d k) (fxIn d k) (View.wordExact_bits rfl) (View.wordExact_bits rfl)
/-- Wait for the forwarded columns of the y neighbour's chunk. -/
abbrev fyAwait (d : Dev nD) (k : Fin 16) : TcProg F PUnit :=
  await (semAt cc0_scratch16 k) (fyIn d k) (fyIn d k) (View.wordExact_bits rfl) (View.wordExact_bits rfl)

/-- An odd chunk of the x neighbour's block: once it is complete, relay it. -/
def relayX (d : Dev nD) (k : Fin 16) : TcProg F PUnit :=
  if k.val % 2 = 1 then fxAwait d k >>= fun _ => rySend d k else pure ⟨⟩
/-- An even chunk of the y neighbour's block: once it is complete, relay it. -/
def relayY (d : Dev nD) (k : Fin 16) : TcProg F PUnit :=
  if k.val % 2 = 0 then fyAwait d k >>= fun _ => rxSend d k else pure ⟨⟩

/-- Chunk `k` of the neighbours' blocks: wait, forward, relay. -/
def step2 (d : Dev nD) (k : Fin 16) : TcProg F PUnit := do
  await (semAt cc0_scratch6 k) (xIn d k) (xIn d k) (View.wordExact_bits rfl) (View.wordExact_bits rfl)
  fxSend d k
  relayX d k
  await (semAt cc0_scratch8 k) (yIn d k) (yIn d k) (View.wordExact_bits rfl) (View.wordExact_bits rfl)
  fySend d k
  relayY d k

/-- The last arrivals of chunk `k`. -/
def step3 (d : Dev nD) (k : Fin 16) : TcProg F PUnit :=
  if k.val % 2 = 0 then do
    fxAwait d k
    await (semAt cc0_scratch10 k) (dIn d k) (dIn d k) (View.wordExact_bits rfl) (View.wordExact_bits rfl)
  else do
    fyAwait d k
    await (semAt cc0_scratch12 k) (dIn d k) (dIn d k) (View.wordExact_bits rfl) (View.wordExact_bits rfl)

/-- Wait until chunk `k` sent along z has left. -/
def wait4 (d : Dev nD) (k : Fin 16) : TcProg F PUnit :=
  await (semAt cc0_scratch3 k) (zrChunk k) (xChunk d k) (View.wordExact_bits rfl) (View.wordExact_bits rfl)
/-- Wait until chunk `k` sent along x and y has left. -/
def wait5 (d : Dev nD) (k : Fin 16) : TcProg F PUnit := do
  await (semAt cc0_scratch5 k) (outDir d k) (rdDir d k) (View.wordExact_bits rfl) (View.wordExact_bits rfl)
  await (semAt cc0_scratch7 k) (outDir d k) (rdDir d k) (View.wordExact_bits rfl) (View.wordExact_bits rfl)
/-- Wait until the relay of chunk `k` has left. -/
def wait6 (d : Dev nD) (k : Fin 16) : TcProg F PUnit :=
  if k.val % 2 = 0 then
    await (semAt cc0_scratch9 k) (ryFull d k) (ryFull d k) (View.wordExact_bits rfl) (View.wordExact_bits rfl)
  else
    await (semAt cc0_scratch11 k) (rxFull d k) (rxFull d k) (View.wordExact_bits rfl) (View.wordExact_bits rfl)
/-- Wait until what was forwarded of chunk `k` has left. -/
def wait7 (d : Dev nD) (k : Fin 16) : TcProg F PUnit := do
  await (semAt cc0_scratch13 k) (fxOut d k) (fxOut d k) (View.wordExact_bits rfl) (View.wordExact_bits rfl)
  await (semAt cc0_scratch15 k) (fyOut d k) (fyOut d k) (View.wordExact_bits rfl) (View.wordExact_bits rfl)
/-- Wait until chunk `k` of the sums is in the result. -/
def wait8 (d : Dev nD) (k : Fin 16) : TcProg F PUnit :=
  await (semAt cc0_scratch18 k) (rdChunk k) (outOwn d k) (View.wordExact_bits rfl) (View.wordExact_bits rfl)

/-- The barrier semaphore. -/
abbrev barSem : Sem sig := (SemArray.scalar (sig.barrier 0 rfl) : Sems sig S_).sem

/-- What a device does first: it signals its three neighbours and waits for their three signals. -/
def meet (d : Dev nD) : TcProg F PUnit := do
  semSignalWord (zn d) barSem 1#32
  semSignalWord (xn d) barSem 1#32
  semSignalWord (yn d) barSem 1#32
  semWaitWord barSem 3#32

/-- The body of device `d`. -/
def bodyOf (d : Dev nD) : TcProg F PUnit := do
  meet d
  loopFrom (zSend d) 16
  cpRaw d
  loopFrom (step1 d) 16
  loopFrom (step2 d) 16
  loopFrom (step3 d) 16
  loopFrom (wait4 d) 16
  loopFrom (wait5 d) 16
  loopFrom (wait6 d) 16
  loopFrom (wait7 d) 16
  loopFrom (wait8 d) 16

set_option maxRecDepth 65536 in
/-- The printed body is the body above at the device that runs it. -/
theorem body_eq (t : Fin cfg0.N) :
    bodyAt0 (F := F) t = (Prog.lift (TpuEff.deviceId) >>= fun d => bodyOf (F := F) d) := by
  chain_rfl

end Cert.KernelIdeal.AllReduce

end
-- ==== Proof.Boxes.lean ====
/- The rectangles of rows and columns that the kernel's copies move, as sets of indices. -/
module

public import proofs.«01_k».proof.Proof.Program

@[expose] public section

noncomputable section

namespace Cert.KernelIdeal.AllReduce

open Cert.KernelIdeal Cert.KernelIdeal.Gen
open Idealize.ShloMosaic Idealize.ShloMosaic.TcCoe Idealize.SL.Sem

/-! ## The mesh -/

theorem zn_zn : ∀ d : Dev nD, zn (zn d) = d := by decide +kernel
theorem xn_xn : ∀ d : Dev nD, xn (xn d) = d := by decide +kernel
theorem yn_yn : ∀ d : Dev nD, yn (yn d) = d := by decide +kernel

/-- The block a device reduces. -/
def rb (d : Dev nD) : ℕ := 2 * (d.val / 4) + (d.val / 2) % 2
/-- A device's place along z. -/
def zc (d : Dev nD) : ℕ := d.val % 2
/-- First of the columns a device sends along x and y. -/
def dirC (d : Dev nD) : ℕ := 128 * zc d
/-- First of the columns a device forwards along z. -/
def foC (d : Dev nD) : ℕ := 896 * zc d
/-- First of the columns a device receives forwarded along z. -/
def fiC (d : Dev nD) : ℕ := 896 * (1 - zc d)

/-- The opposite device with the same place along z. -/
def xyn (d : Dev nD) : Dev nD := xn (yn d)

theorem zc_lt (d : Dev nD) : zc d < 2 := Nat.mod_lt _ (by decide)
theorem zc_zn : ∀ d : Dev nD, zc (zn d) = 1 - zc d := by decide +kernel
theorem zc_xn : ∀ d : Dev nD, zc (xn d) = zc d := by decide +kernel
theorem zc_yn : ∀ d : Dev nD, zc (yn d) = zc d := by decide +kernel
theorem rb_zn : ∀ d : Dev nD, rb (zn d) = rb d := by decide +kernel
theorem rb_lt : ∀ d : Dev nD, rb d < 4 := by decide +kernel

/-! ## Offsets -/

theorem off1_eq : ∀ (d : Dev nD) (k : Fin 16), k0_off1 d (cw k) = ![4096 * rb d + 256 * k.val, 0] := by decide +kernel
theorem off2_eq : ∀ d : Dev nD, k0_off2 d = ![4096 * rb d, 0] := by decide +kernel
theorem off3_eq : ∀ (d : Dev nD) (k : Fin 16), k0_off3 d (cw k) = ![4096 * rb d + 256 * k.val, dirC d] := by decide +kernel
theorem off4_eq : ∀ (d : Dev nD) (k : Fin 16), rdOff d k = ![256 * k.val, dirC d] := by decide +kernel
theorem off20_eq : ∀ (d : Dev nD) (k : Fin 16), k0_off20 d (cw k) = ![4096 * rb (xn d) + 256 * k.val, dirC d] := by decide +kernel
theorem off21_eq : ∀ (d : Dev nD) (k : Fin 16), k0_off21 d (cw k) = ![4096 * rb (xn d) + 256 * k.val, foC d] := by decide +kernel
theorem off22_eq : ∀ (d : Dev nD) (k : Fin 16), k0_off22 d (cw k) = ![4096 * rb (yn d) + 256 * k.val, dirC d] := by decide +kernel
theorem off23_eq : ∀ (d : Dev nD) (k : Fin 16), k0_off23 d (cw k) = ![4096 * rb (yn d) + 256 * k.val, foC d] := by decide +kernel
theorem off24_eq : ∀ (d : Dev nD) (k : Fin 16), k0_off24 d (cw k) = ![4096 * rb (yn d) + 256 * k.val, fiC d] := by decide +kernel
theorem off25_eq : ∀ (d : Dev nD) (k : Fin 16), k0_off25 d (cw k) = ![4096 * rb (yn d) + 256 * k.val, 0] := by decide +kernel
theorem off26_eq : ∀ (d : Dev nD) (k : Fin 16), k0_off26 d (cw k) = ![4096 * rb (xn d) + 256 * k.val, fiC d] := by decide +kernel
theorem off27_eq : ∀ (d : Dev nD) (k : Fin 16), k0_off27 d (cw k) = ![4096 * rb (xn d) + 256 * k.val, 0] := by decide +kernel
theorem off28_eq : ∀ (d : Dev nD) (k : Fin 16), k0_off28 d (cw k) = ![4096 * rb (xyn d) + 256 * k.val, 0] := by decide +kernel

/-! ## Boxes -/

/-- The rows from `r` on, `nr` of them, and of these the columns from `q` on, `nq` of them. -/
def box {R Q : ℕ} (r nr q nq : ℕ) : Finset (Shape.Idx ⟨2, ![R, Q]⟩) :=
  Finset.univ.filter fun i => (r ≤ (i 0).val ∧ (i 0).val < r + nr) ∧ (q ≤ (i 1).val ∧ (i 1).val < q + nq)

theorem mem_box {R Q r nr q nq : ℕ} {i : Shape.Idx ⟨2, ![R, Q]⟩} :
    i ∈ box r nr q nq ↔ (r ≤ (i 0).val ∧ (i 0).val < r + nr) ∧ (q ≤ (i 1).val ∧ (i 1).val < q + nq) := by
  simp [box]

/-- A unit-stride rectangle of a rank two shape is a box. -/
theorem set_unit {R Q : ℕ} (off size : Fin 2 → ℕ) (h) :
    (Rect.unit (s := ⟨2, ![R, Q]⟩) off size h).set = box (off 0) (size 0) (off 1) (size 1) := by
  ext i
  rw [mem_box, LoadRect.mem_set]
  simp only [Rect.unit, Nat.one_mul]
  constructor
  · intro hi
    obtain ⟨j, hj, e⟩ := hi 0
    obtain ⟨j', hj', e'⟩ := hi 1
    exact ⟨⟨by omega, by omega⟩, by omega, by omega⟩
  · rintro ⟨⟨h1, h2⟩, h3, h4⟩ a
    revert a
    rw [Fin.forall_fin_two]
    exact ⟨⟨(i 0).val - off 0, by omega, by omega⟩, (i 1).val - off 1, by omega, by omega⟩

/-- Boxes that share no row, or no column, are disjoint. -/
theorem box_disjoint {R Q r nr q nq r' nr' q' nq' : ℕ}
    (h : r + nr ≤ r' ∨ r' + nr' ≤ r ∨ q + nq ≤ q' ∨ q' + nq' ≤ q) :
    Disjoint (box (R := R) (Q := Q) r nr q nq) (box r' nr' q' nq') := by
  rw [Finset.disjoint_left]
  intro i h1 h2
  rw [mem_box] at h1 h2
  omega

/-- Chunk `k` of block `b` of an array of 16384 rows. -/
abbrev row (b : ℕ) (k : Fin 16) : Finset S16384x1024.Idx := box (4096 * b + 256 * k.val) 256 0 1024
/-- Of that, `n` columns from `q` on. -/
abbrev cols (b : ℕ) (k : Fin 16) (q n : ℕ) : Finset S16384x1024.Idx := box (4096 * b + 256 * k.val) 256 q n
/-- Block `b` of an array of 16384 rows. -/
abbrev blk (b : ℕ) : Finset S16384x1024.Idx := box (4096 * b) 4096 0 1024
/-- Chunk `k` of a block of 4096 rows. -/
abbrev ck (k : Fin 16) : Finset S4096x1024.Idx := box (256 * k.val) 256 0 1024
/-- Of that, `n` columns from `q` on. -/
abbrev ckc (k : Fin 16) (q n : ℕ) : Finset S4096x1024.Idx := box (256 * k.val) 256 q n

/-- The same at offsets known in closed form. -/
theorem set_unit_eq {R Q : ℕ} {off size : Fin 2 → ℕ} (h) {a b : ℕ} (ho : off = ![a, b]) :
    (Rect.unit (s := ⟨2, ![R, Q]⟩) off size h).set = box a (size 0) b (size 1) := by
  subst ho; exact set_unit _ _ _

set_option maxRecDepth 20000

section Sets
variable (d : Dev nD) (k : Fin 16)

theorem set_xChunk : (xChunk d k).view.set = row (rb d) k :=
  (View.set_slice_whole main_arg0 _).trans (set_unit_eq _ (off1_eq d k))
theorem set_xBlock : (xBlock d).view.set = blk (rb d) :=
  (View.set_slice_whole main_arg0 _).trans (set_unit_eq _ (off2_eq d))
theorem set_zrChunk : (zrChunk k).view.set = ck k :=
  (View.set_slice_whole cc0_scratch0 _).trans (set_unit_eq _ (rfl))
theorem set_rdChunk : (rdChunk k).view.set = ck k :=
  (View.set_slice_whole cc0_scratch2 _).trans (set_unit_eq _ (rfl))
theorem set_rdDir : (rdDir d k).view.set = ckc k (dirC d) 896 :=
  (View.set_slice_whole cc0_scratch2 _).trans (set_unit_eq _ (off4_eq d k))
theorem set_outOwn : (outOwn d k).view.set = row (rb d) k :=
  (View.set_slice_whole main_v1 _).trans (set_unit_eq _ (off1_eq d k))
theorem set_outDir : (outDir d k).view.set = cols (rb d) k (dirC d) 896 :=
  (View.set_slice_whole main_v1 _).trans (set_unit_eq _ (off3_eq d k))
theorem set_xIn : (xIn d k).view.set = cols (rb (xn d)) k (dirC d) 896 :=
  (View.set_slice_whole main_v1 _).trans (set_unit_eq _ (off20_eq d k))
theorem set_fxOut : (fxOut d k).view.set = cols (rb (xn d)) k (foC d) 128 :=
  (View.set_slice_whole main_v1 _).trans (set_unit_eq _ (off21_eq d k))
theorem set_yIn : (yIn d k).view.set = cols (rb (yn d)) k (dirC d) 896 :=
  (View.set_slice_whole main_v1 _).trans (set_unit_eq _ (off22_eq d k))
theorem set_fyOut : (fyOut d k).view.set = cols (rb (yn d)) k (foC d) 128 :=
  (View.set_slice_whole main_v1 _).trans (set_unit_eq _ (off23_eq d k))
theorem set_fyIn : (fyIn d k).view.set = cols (rb (yn d)) k (fiC d) 128 :=
  (View.set_slice_whole main_v1 _).trans (set_unit_eq _ (off24_eq d k))
theorem set_fxIn : (fxIn d k).view.set = cols (rb (xn d)) k (fiC d) 128 :=
  (View.set_slice_whole main_v1 _).trans (set_unit_eq _ (off26_eq d k))
theorem set_ryFull : (ryFull d k).view.set = row (rb (yn d)) k :=
  (View.set_slice_whole main_v1 _).trans (set_unit_eq _ (off25_eq d k))
theorem set_rxFull : (rxFull d k).view.set = row (rb (xn d)) k :=
  (View.set_slice_whole main_v1 _).trans (set_unit_eq _ (off27_eq d k))
theorem set_dIn : (dIn d k).view.set = row (rb (xyn d)) k :=
  (View.set_slice_whole main_v1 _).trans (set_unit_eq _ (off28_eq d k))

theorem set_ckRect : (ckRect k).set = ck k := set_unit_eq _ rfl

end Sets

end Cert.KernelIdeal.AllReduce

end
-- ==== Proof.Contents.lean ====
/- What the buffers of each device hold, and that each copy of the kernel leaves its destination holding it. -/
module

public import proofs.«01_k».proof.Proof.Boxes
public import Idealize.ShloMosaic.Lib.Pipeline.Value

@[expose] public section

noncomputable section

namespace Cert.KernelIdeal.AllReduce

open Cert.KernelIdeal Cert.KernelIdeal.Gen
open Idealize.ShloMosaic Idealize.ShloMosaic.TcCoe Idealize.SL.Sem

variable {F : FTy → Type} [FloatOps F]

set_option maxRecDepth 20000

/-! ## Coordinates -/

theorem xn_cases : ∀ (d : Dev nD), rb (xn d) < 4 ∧ rb (xn d) ≠ rb d := by decide +kernel

/-- Position `i` of device `d`'s block, as a position of the array. -/
def up (d : Dev nD) (i : S4096x1024.Idx) : S16384x1024.Idx := (xBlock d).view.emb i

theorem up_row (d : Dev nD) (i : S4096x1024.Idx) : (up d i 0).val = 4096 * rb d + (i 0).val := by
  show (k0_off2 d) 0 + 1 * (i 0).val = _
  rw [off2_eq, Nat.one_mul]; rfl
theorem up_col (d : Dev nD) (i : S4096x1024.Idx) : (up d i 1).val = (i 1).val := by
  show (k0_off2 d) 1 + 1 * (i 1).val = _
  rw [off2_eq, Nat.one_mul]; exact Nat.zero_add _

/-- Positions with equal coordinates are equal. -/
theorem idx_ext {R Q : ℕ} {i j : Shape.Idx ⟨2, ![R, Q]⟩} (h0 : (i 0).val = (j 0).val) (h1 : (i 1).val = (j 1).val) :
    i = j := by
  funext a
  revert a
  rw [Fin.forall_fin_two]
  exact ⟨Fin.ext h0, Fin.ext h1⟩

section Coordinates
variable (d : Dev nD) (k : Fin 16)

theorem own_row (x : S256x1024.Idx) : ((outOwn d k).view.emb x 0).val = 4096 * rb d + 256 * k.val + (x 0).val := by
  show (k0_off1 d (cw k)) 0 + 1 * (x 0).val = _
  rw [off1_eq, Nat.one_mul]; rfl
theorem own_col (x : S256x1024.Idx) : ((outOwn d k).view.emb x 1).val = (x 1).val := by
  show (k0_off1 d (cw k)) 1 + 1 * (x 1).val = _
  rw [off1_eq, Nat.one_mul]; exact Nat.zero_add _
theorem dir_row (x : S256x896.Idx) : ((outDir d k).view.emb x 0).val = 4096 * rb d + 256 * k.val + (x 0).val := by
  show (k0_off3 d (cw k)) 0 + 1 * (x 0).val = _
  rw [off3_eq, Nat.one_mul]; rfl
theorem dir_col (x : S256x896.Idx) : ((outDir d k).view.emb x 1).val = dirC d + (x 1).val := by
  show (k0_off3 d (cw k)) 1 + 1 * (x 1).val = _
  rw [off3_eq, Nat.one_mul]; rfl
theorem rdDir_row (x : S256x896.Idx) : ((rdDir d k).view.emb x 0).val = 256 * k.val + (x 0).val := by
  show (rdOff d k) 0 + 1 * (x 0).val = _
  rw [off4_eq, Nat.one_mul]; rfl
theorem rdDir_col (x : S256x896.Idx) : ((rdDir d k).view.emb x 1).val = dirC d + (x 1).val := by
  show (rdOff d k) 1 + 1 * (x 1).val = _
  rw [off4_eq, Nat.one_mul]; rfl
theorem ck_row (x : S256x1024.Idx) : ((rdChunk k).view.emb x 0).val = 256 * k.val + (x 0).val := by
  show 256 * k.val + 1 * (x 0).val = _
  rw [Nat.one_mul]
theorem ck_col (x : S256x1024.Idx) : ((rdChunk k).view.emb x 1).val = (x 1).val := by
  show 0 + 1 * (x 1).val = _
  rw [Nat.one_mul, Nat.zero_add]

theorem up_own (x) : up d ((rdChunk k).view.emb x) = (outOwn d k).view.emb x :=
  idx_ext (by rw [up_row, own_row, Nat.add_assoc]; exact congrArg _ (ck_row k x)) (by rw [up_col, own_col]; exact ck_col k x)
theorem up_dir (x) : up d ((rdDir d k).view.emb x) = (outDir d k).view.emb x :=
  idx_ext (by rw [up_row, dir_row, Nat.add_assoc]; exact congrArg _ (rdDir_row d k x))
    (by rw [up_col, dir_col]; exact rdDir_col d k x)
theorem up_zn (i : S4096x1024.Idx) : up (zn d) i = up d i :=
  idx_ext (by rw [up_row, up_row, rb_zn]) (by rw [up_col, up_col])

end Coordinates

/-! ## Contents -/

/-- The device whose values reach device `c` in block `b`. -/
def own (c : Dev nD) (b : ℕ) : Dev nD :=
  if b = rb c then c else if b = rb (xn c) then xn c else if b = rb (yn c) then yn c else xyn c

variable (m : (ℓ : Loc nD τ sig) → Buf (Elt F) ℓ)

/-- Device `c`'s argument. -/
def inp (c : Dev nD) : Vec F S16384x1024 .f32 := m ((c : Thread nD τ).loc main_arg0)
/-- Device `c`'s argument plus its z neighbour's. -/
def sumz (c : Dev nD) : Vec F S16384x1024 .f32 := addf (inp m c) (inp m (zn c))
/-- Device `c`'s own block of its argument. -/
def rawB (c : Dev nD) : Vec F S4096x1024 .f32 := fun i => inp m c (up c i)
/-- The same block of the z neighbour's argument. -/
def zrB (c : Dev nD) : Vec F S4096x1024 .f32 := fun i => inp m (zn c) (up c i)
/-- The block's sum. -/
def rdB (c : Dev nD) : Vec F S4096x1024 .f32 := fun i => sumz m c (up c i)
/-- What device `c`'s result holds at the end. -/
def fin (c : Dev nD) : Vec F S16384x1024 .f32 := fun i =>
  if (i 0).val / 4096 = rb c ∨ (dirC c ≤ (i 1).val ∧ (i 1).val < dirC c + 896) then sumz m (own c ((i 0).val / 4096)) i
  else sumz m (zn (own c ((i 0).val / 4096))) i

theorem own_zn : ∀ (c : Dev nD) (b : Fin 4), own (zn c) b.val = zn (own c b.val) := by decide +kernel
theorem own_xn : ∀ (c : Dev nD) (b : Fin 4), own (xn c) b.val = own c b.val := by decide +kernel
theorem own_yn : ∀ (c : Dev nD) (b : Fin 4), own (yn c) b.val = own c b.val := by decide +kernel
theorem own_self (c : Dev nD) : own c (rb c) = c := if_pos rfl
theorem own_of_xn : ∀ c : Dev nD, own (xn c) (rb c) = c := by decide +kernel
theorem own_of_yn : ∀ c : Dev nD, own (yn c) (rb c) = c := by decide +kernel

/-- The block of a position. -/
theorem blk_of {b : ℕ} {k : Fin 16} {q n : ℕ} {i : S16384x1024.Idx} (h : i ∈ cols b k q n) : (i 0).val / 4096 = b := by
  have := mem_box.mp h
  have := k.isLt
  omega

theorem cols_mem {b : ℕ} {k : Fin 16} {q n : ℕ} {i : S16384x1024.Idx} (h : i ∈ cols b k q n) :
    q ≤ (i 1).val ∧ (i 1).val < q + n := (mem_box.mp h).2

/-- In the columns that arrive along x and y a result holds the sum of the block's device. -/
theorem fin_dir {c : Dev nD} {b : ℕ} {k : Fin 16} {i : S16384x1024.Idx} (h : i ∈ cols b k (dirC c) 896) :
    fin m c i = sumz m (own c b) i := by
  unfold fin; rw [if_pos (Or.inr (cols_mem h)), blk_of h]

/-- In its own block a device's result holds its own sum. -/
theorem fin_own {c : Dev nD} {k : Fin 16} {i : S16384x1024.Idx} (h : i ∈ row (rb c) k) : fin m c i = sumz m c i := by
  unfold fin; rw [blk_of h, if_pos (Or.inl rfl), own_self]

/-- What is forwarded along z is what the z neighbour is to hold there. -/
theorem fin_fwd {c : Dev nD} {b : ℕ} (hb : b < 4) (hbc : b ≠ rb c) {k : Fin 16} {i : S16384x1024.Idx}
    (h : i ∈ cols b k (foC c) 128) : fin m (zn c) i = fin m c i := by
  have hz := zc_lt c
  have h2 := cols_mem h
  unfold fin
  rw [blk_of h, if_neg, if_pos, own_zn c ⟨b, hb⟩, zn_zn]
  · right; unfold foC at h2; unfold dirC; omega
  · rw [rb_zn]; unfold dirC; rw [zc_zn]; unfold foC at h2; omega

/-- What is relayed along x is what the x neighbour is to hold there. -/
theorem fin_relx {c : Dev nD} {b : ℕ} (hb : b < 4) (hbc : b ≠ rb c) (hbx : b ≠ rb (xn c)) {k : Fin 16} {i : S16384x1024.Idx}
    (h : i ∈ row b k) : fin m (xn c) i = fin m c i := by
  unfold fin
  rw [blk_of h, own_xn c ⟨b, hb⟩, show dirC (xn c) = dirC c by unfold dirC; rw [zc_xn]]
  simp only [hbc, hbx, false_or]

/-- What is relayed along y is what the y neighbour is to hold there. -/
theorem fin_rely {c : Dev nD} {b : ℕ} (hb : b < 4) (hbc : b ≠ rb c) (hby : b ≠ rb (yn c)) {k : Fin 16} {i : S16384x1024.Idx}
    (h : i ∈ row b k) : fin m (yn c) i = fin m c i := by
  unfold fin
  rw [blk_of h, own_yn c ⟨b, hb⟩, show dirC (yn c) = dirC c by unfold dirC; rw [zc_yn]]
  simp only [hbc, hby, false_or]

/-! ## Copies -/

/-- What a write of `w` leaves agrees, on the elements written, with contents that read as `w`. -/
theorem written {sp : Space} {s : Shape} (v : View sig .tc sp s .f32) (f G : v.ty.Contents (Elt F)) (w : s.Idx → Elt F .f32)
    (h : v.read (Elt F) G = w) : ∀ i ∈ v.set, v.write (Elt F) f w Finset.univ i = G i := by
  intro i hi
  obtain ⟨x, -, rfl⟩ := Finset.mem_map.mp hi
  rw [View.write_emb_of_mem _ _ (Finset.mem_univ x), ← h, View.read_apply]
  simp

variable (c : Dev nD) (k : Fin 16)

theorem mem_row_of (d : Dev nD) (x : S256x1024.Idx) : (outOwn d k).view.emb x ∈ row (rb d) k := by
  rw [← set_outOwn d k]; exact Finset.mem_map_of_mem _ (Finset.mem_univ x)

theorem copied_z : (zrChunk k).view.read (Elt F) (zrB m (zn c)) = (xChunk c k).view.read (Elt F) (inp m c) := by
  funext x
  show inp m (zn (zn c)) (up (zn c) ((rdChunk k).view.emb x)) = inp m c ((outOwn c k).view.emb x)
  rw [zn_zn, up_zn, up_own]

theorem copied_raw : arM.view.read (Elt F) (rawB m c) = (xBlock c).view.read (Elt F) (inp m c) := rfl

theorem mem_dir (x) : (outDir c k).view.emb x ∈ cols (rb c) k (dirC c) 896 := by
  rw [← set_outDir c k]; exact Finset.mem_map_of_mem _ (Finset.mem_univ x)

theorem copied_x : (outDir c k).view.read (Elt F) (fin m (xn c)) = (rdDir c k).view.read (Elt F) (rdB m c) := by
  funext x
  show fin m (xn c) ((outDir c k).view.emb x) = sumz m c (up c ((rdDir c k).view.emb x))
  have h := mem_dir c k x
  rw [up_dir, fin_dir m (c := xn c) (b := rb c) (k := k) (by rw [show dirC (xn c) = dirC c by unfold dirC; rw [zc_xn]]; exact h),
    own_of_xn]

theorem copied_y : (outDir c k).view.read (Elt F) (fin m (yn c)) = (rdDir c k).view.read (Elt F) (rdB m c) := by
  funext x
  show fin m (yn c) ((outDir c k).view.emb x) = sumz m c (up c ((rdDir c k).view.emb x))
  have h := mem_dir c k x
  rw [up_dir, fin_dir m (c := yn c) (b := rb c) (k := k) (by rw [show dirC (yn c) = dirC c by unfold dirC; rw [zc_yn]]; exact h),
    own_of_yn]

theorem copied_out : (outOwn c k).view.read (Elt F) (fin m c) = (rdChunk k).view.read (Elt F) (rdB m c) := by
  funext x
  show fin m c ((outOwn c k).view.emb x) = sumz m c (up c ((rdChunk k).view.emb x))
  rw [up_own, fin_own m (mem_row_of k c x)]

theorem rb_xn_ne : ∀ d : Dev nD, rb (xn d) ≠ rb d := by decide +kernel
theorem rb_yn_ne : ∀ d : Dev nD, rb (yn d) ≠ rb d := by decide +kernel
theorem rb_xn_ne_yn : ∀ d : Dev nD, rb (xn d) ≠ rb (yn d) := by decide +kernel

theorem copied_fx : (fxOut c k).view.read (Elt F) (fin m (zn c)) = (fxOut c k).view.read (Elt F) (fin m c) := by
  funext x
  exact fin_fwd m (rb_lt _) (rb_xn_ne c) (k := k) (by rw [← set_fxOut c k]; exact Finset.mem_map_of_mem _ (Finset.mem_univ x))
theorem copied_fy : (fyOut c k).view.read (Elt F) (fin m (zn c)) = (fyOut c k).view.read (Elt F) (fin m c) := by
  funext x
  exact fin_fwd m (rb_lt _) (rb_yn_ne c) (k := k) (by rw [← set_fyOut c k]; exact Finset.mem_map_of_mem _ (Finset.mem_univ x))
theorem copied_rx : (ryFull c k).view.read (Elt F) (fin m (xn c)) = (ryFull c k).view.read (Elt F) (fin m c) := by
  funext x
  exact fin_relx m (rb_lt _) (rb_yn_ne c) (rb_xn_ne_yn c).symm (k := k)
    (by rw [← set_ryFull c k]; exact Finset.mem_map_of_mem _ (Finset.mem_univ x))
theorem copied_ry : (rxFull c k).view.read (Elt F) (fin m (yn c)) = (rxFull c k).view.read (Elt F) (fin m c) := by
  funext x
  exact fin_rely m (rb_lt _) (rb_xn_ne c) (rb_xn_ne_yn c) (k := k)
    (by rw [← set_rxFull c k]; exact Finset.mem_map_of_mem _ (Finset.mem_univ x))

/-- The sum a chunk stores. -/
theorem stored : (rdM.access (ckRect k)).read (Elt F) (rdB m c)
    = k0_pay1 ((arM.access (ckRect k)).read (Elt F) (rawB m c)) ((zrM.access (ckRect k)).read (Elt F) (zrB m c)) := by
  unfold k0_pay1
  simp only [shapeCast_self]
  rfl

end Cert.KernelIdeal.AllReduce

end
-- ==== Proof.Cells.lean ====
/- The semaphores of the kernel: who waits on each, who pays it, how much, in which order, and what it hands over. -/
module

public import proofs.«01_k».proof.Proof.Contents
public import Idealize.ShloMosaic.Lib.Rounds
public import Idealize.ShloMosaic.Lib.Pipeline.Launch

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Names of the semaphores -/

/-- The arrays of sixteen semaphores: of what leaves (`s`) and what arrives (`r`) along z, x, y, of the relays along x
    and y, of what is forwarded of the x and the y neighbour's block, and of the copies into the result. -/
inductive Fam | zs | zr | xs | xr | ys | yr | rxs | rxr | rys | ryr | fxs | fxr | fys | fyr | co
  deriving DecidableEq

instance : Fintype Fam :=
  ⟨{.zs, .zr, .xs, .xr, .ys, .yr, .rxs, .rxr, .rys, .ryr, .fxs, .fxr, .fys, .fyr, .co}, fun f => by cases f <;> decide⟩

/-- The kernel's own semaphores: that of the copy of the argument, and the arrays'. -/
abbrev OwnRole := Unit ⊕ (Fam × Fin 16)
/-- All of them: the barrier besides. -/
abbrev Role := Unit ⊕ OwnRole
abbrev bar : Role := .inl ()
abbrev cp : Role := .inr (.inl ())
abbrev st (f : Fam) (k : Fin 16) : Role := .inr (.inr (f, k))

def arr : Fam → DmaSems sig S16
  | .zs => cc0_scratch3 | .zr => cc0_scratch4 | .xs => cc0_scratch5 | .xr => cc0_scratch6 | .ys => cc0_scratch7
  | .yr => cc0_scratch8 | .rxs => cc0_scratch9 | .rxr => cc0_scratch10 | .rys => cc0_scratch11 | .ryr => cc0_scratch12
  | .fxs => cc0_scratch13 | .fxr => cc0_scratch14 | .fys => cc0_scratch15 | .fyr => cc0_scratch16 | .co => cc0_scratch18

/-- Place of an array among the arrays. -/
def place : Fam → ℕ
  | .zs => 0 | .zr => 1 | .xs => 2 | .xr => 3 | .ys => 4 | .yr => 5 | .rxs => 6 | .rxr => 7 | .rys => 8 | .ryr => 9
  | .fxs => 10 | .fxr => 11 | .fys => 12 | .fyr => 13 | .co => 14

def ownDma : OwnRole → DmaSem sig
  | .inl _ => cc0_scratch17.sem
  | .inr (f, k) => semAt (arr f) k
abbrev ownSem (o : OwnRole) : SemLoc sig := .dma (ownDma o)
def semOf : Role → SemLoc sig
  | .inl _ => .reg barSem
  | .inr o => ownSem o

/-- Number of a semaphore of the kernel. -/
def num : OwnRole → ℕ
  | .inl _ => 224
  | .inr (f, k) => 16 * place f + k.val + (if f = .co then 1 else 0)

theorem ownDma_val : ∀ o : OwnRole, (ownDma o).val = num o := by decide +kernel

theorem place_inj : ∀ f g : Fam, place f = place g → f = g := by decide +kernel
theorem place_co : ∀ f : Fam, place f ≤ 14 ∧ (f = .co → place f = 14) ∧ (f ≠ .co → place f < 14) := by decide +kernel

theorem num_inj : Function.Injective num := by
  rintro (⟨⟩ | ⟨f, k⟩) (⟨⟩ | ⟨g, l⟩) h
  · rfl
  · exfalso
    simp only [num] at h
    have h2 := place_co g; have := l.isLt
    by_cases hg : g = .co
    · rw [if_pos hg] at h; have := h2.2.1 hg; omega
    · rw [if_neg hg] at h; have := h2.2.2 hg; omega
  · exfalso
    simp only [num] at h
    have h1 := place_co f; have := k.isLt
    by_cases hf : f = .co
    · rw [if_pos hf] at h; have := h1.2.1 hf; omega
    · rw [if_neg hf] at h; have := h1.2.2 hf; omega
  · simp only [num] at h
    have h1 := place_co f; have h2 := place_co g; have := k.isLt; have := l.isLt
    have hp : place f = place g ∧ k.val = l.val := by
      by_cases hf : f = .co <;> by_cases hg : g = .co
      · rw [if_pos hf, if_pos hg] at h; have := h1.2.1 hf; have := h2.2.1 hg; omega
      · rw [if_pos hf, if_neg hg] at h; have := h1.2.1 hf; have := h2.2.2 hg; omega
      · rw [if_neg hf, if_pos hg] at h; have := h2.2.1 hg; have := h1.2.2 hf; omega
      · rw [if_neg hf, if_neg hg] at h; have := h1.2.2 hf; have := h2.2.2 hg; omega
    rw [place_inj f g hp.1, Fin.ext hp.2]

theorem ownSem_inj : Function.Injective ownSem := by
  intro a b h
  have h' : ownDma a = ownDma b := by injection h
  exact num_inj (by rw [← ownDma_val, ← ownDma_val, h'])

theorem semOf_inj : Function.Injective semOf := by
  rintro (⟨⟩ | a) (⟨⟩ | b) h
  · rfl
  · cases h
  · cases h
  · rw [ownSem_inj h]

open Classical in
/-- Which semaphore of the kernel a semaphore is. -/
def roleOf (sm : SemLoc sig) : Option Role := if h : ∃ ρ, semOf ρ = sm then some h.choose else none

theorem roleOf_semOf (ρ : Role) : roleOf (semOf ρ) = some ρ := by
  have h : ∃ ρ', semOf ρ' = semOf ρ := ⟨ρ, rfl⟩
  unfold roleOf
  rw [dif_pos h, semOf_inj h.choose_spec]

/-- Device `c`'s semaphore in a role. -/
def kcell (c : Dev nD) (ρ : Role) : GSem nD τ sig := ((c : Thread nD τ), semOf ρ)

theorem kcell_inj : Function.Injective fun x : Dev nD × Role => kcell x.1 x.2 := by
  rintro ⟨c, ρ⟩ ⟨c', ρ'⟩ h
  have h1 : c = c' := congrArg (fun g : GSem nD τ sig => g.1.1) h
  have h2 : ρ = ρ' := semOf_inj (congrArg Prod.snd h)
  rw [h1, h2]

/-! ## Amounts and levels -/

def A1024 : ℕ := (outOwn 0 0).view.dmaCredit
def A896 : ℕ := (outDir 0 0).view.dmaCredit
def A128 : ℕ := (fxOut 0 0).view.dmaCredit
def ABlk : ℕ := (arM : Memref sig .tc .vmem S4096x1024 .f32).view.dmaCredit

theorem A1024_pos : 0 < A1024 := View.dmaCredit_pos _ (Shape.numel_pos fun a => by fin_cases a <;> decide)
theorem A896_pos : 0 < A896 := View.dmaCredit_pos _ (Shape.numel_pos fun a => by fin_cases a <;> decide)
theorem A128_pos : 0 < A128 := View.dmaCredit_pos _ (Shape.numel_pos fun a => by fin_cases a <;> decide)
theorem ABlk_pos : 0 < ABlk := View.dmaCredit_pos _ (Shape.numel_pos fun a => by fin_cases a <;> decide)

/-- What one payment of a semaphore is. -/
def amt : Role → ℕ
  | .inl _ => 1
  | .inr (.inl _) => ABlk
  | .inr (.inr (f, _)) => match f with
    | .xs | .xr | .ys | .yr => A896
    | .fxs | .fxr | .fys | .fyr => A128
    | _ => A1024

theorem amt_pos (ρ : Role) : 0 < amt ρ := by
  rcases ρ with ⟨⟩ | ⟨⟩ | ⟨f, k⟩
  · exact Nat.one_pos
  · exact ABlk_pos
  · cases f <;> first | exact A1024_pos | exact A896_pos | exact A128_pos

/-- The order in which the semaphores are waited on. -/
def lvl : Role → ℕ
  | .inl _ => 1
  | .inr (.inl _) => 0
  | .inr (.inr (f, k)) => match f with
    | .zr => 2
    | .xr | .yr => 3
    | .fxr => 4 + 2 * k.val
    | .fyr => 5 + 2 * k.val
    | .rxr | .ryr => 100
    | _ => 0

/-- Whether a semaphore of an array is used: the relay along x takes the even chunks, that along y the odd ones. -/
def used : Fam → Fin 16 → Prop
  | .rxs, k | .rxr, k => k.val % 2 = 0
  | .rys, k | .ryr, k => k.val % 2 = 1
  | _, _ => True

instance (f k) : Decidable (used f k) := by cases f <;> unfold used <;> infer_instance

/-- The payments of a semaphore. -/
def dutiesR : Role → Finset (Fin 3)
  | .inl _ => Finset.univ
  | .inr (.inl _) => {0}
  | .inr (.inr (f, k)) => if used f k then {0} else ∅

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces of the buffers -/

/-- Elements `I` of device `c`'s argument, of its result, and of its three scratch buffers. -/
abbrev xP (c : Dev nD) (I : Finset S16384x1024.Idx) (q : PosShare TreeShare) (f : Vec F S16384x1024 .f32) : sProp 𝕄 :=
  ((c : Thread nD τ).loc main_arg0) ↦[I]{q} f
abbrev oP (c : Dev nD) (I : Finset S16384x1024.Idx) (q : PosShare TreeShare) (f : Vec F S16384x1024 .f32) : sProp 𝕄 :=
  ((c : Thread nD τ).loc main_v1) ↦[I]{q} f
abbrev zP (c : Dev nD) (I : Finset S4096x1024.Idx) (q : PosShare TreeShare) (f : Vec F S4096x1024 .f32) : sProp 𝕄 :=
  ((c : Thread nD τ).loc cc0_scratch0) ↦[I]{q} f
abbrev aP (c : Dev nD) (I : Finset S4096x1024.Idx) (q : PosShare TreeShare) (f : Vec F S4096x1024 .f32) : sProp 𝕄 :=
  ((c : Thread nD τ).loc cc0_scratch1) ↦[I]{q} f
abbrev rP (c : Dev nD) (I : Finset S4096x1024.Idx) (q : PosShare TreeShare) (f : Vec F S4096x1024 .f32) : sProp 𝕄 :=
  ((c : Thread nD τ).loc cc0_scratch2) ↦[I]{q} f

/-- The same at some contents, at the full share. -/
abbrev oAny (c : Dev nD) (I : Finset S16384x1024.Idx) : sProp 𝕄 := iprop(∃ f : Vec F S16384x1024 .f32, oP c I fullShare f)
abbrev zAny (c : Dev nD) (I : Finset S4096x1024.Idx) : sProp 𝕄 := iprop(∃ f : Vec F S4096x1024 .f32, zP c I fullShare f)
abbrev aAny (c : Dev nD) (I : Finset S4096x1024.Idx) : sProp 𝕄 := iprop(∃ f : Vec F S4096x1024 .f32, aP c I fullShare f)
abbrev rAny (c : Dev nD) (I : Finset S4096x1024.Idx) : sProp 𝕄 := iprop(∃ f : Vec F S4096x1024 .f32, rP c I fullShare f)

/-- Shares. -/
abbrev sL : PosShare TreeShare := fullShare.left
abbrev sR : PosShare TreeShare := fullShare.right
abbrev sRL : PosShare TreeShare := fullShare.right.left
abbrev sRR : PosShare TreeShare := fullShare.right.right

/-! ## What is handed over -/

/-- The neighbours, in the order of the signals. -/
def nb : Fin 3 → Dev nD → Dev nD
  | 0 => zn
  | 1 => xn
  | 2 => yn

theorem nb_nb : ∀ (δ : Fin 3) (d : Dev nD), nb δ (nb δ d) = d := by decide +kernel

/-- What device `o` lets its neighbour in direction `δ` write, of chunk `k`. -/
def giveK (o : Dev nD) (k : Fin 16) : Fin 3 → sProp 𝕄
  | 0 => iprop(zAny (F := F) o (ck k) ∗ oAny (F := F) o (cols (rb (xn o)) k (fiC o) 128) ∗ oAny (F := F) o (cols (rb (yn o)) k (fiC o) 128))
  | 1 => iprop(oAny (F := F) o (cols (rb (xn o)) k (dirC o) 896) ∗ if k.val % 2 = 0 then oAny (F := F) o (row (rb (xyn o)) k) else emp)
  | 2 => iprop(oAny (F := F) o (cols (rb (yn o)) k (dirC o) 896) ∗ if k.val % 2 = 0 then emp else oAny (F := F) o (row (rb (xyn o)) k))

instance giveK_storable (o : Dev nD) (k : Fin 16) (δ : Fin 3) : BI.Storable (upEmb : UEmb _ 𝕄) (giveK (F := F) o k δ) := by
  match δ with
  | 0 => unfold giveK; infer_instance
  | 1 =>
    show BI.Storable _ iprop(_ ∗ if k.val % 2 = 0 then _ else _)
    by_cases h : k.val % 2 = 0
    · rw [if_pos h]; infer_instance
    · rw [if_neg h]; infer_instance
  | 2 =>
    show BI.Storable _ iprop(_ ∗ if k.val % 2 = 0 then _ else _)
    by_cases h : k.val % 2 = 0
    · rw [if_pos h]; infer_instance
    · rw [if_neg h]; infer_instance

variable (m : (ℓ : Loc nD τ sig) → Buf (Elt F) ℓ)

/-- What a completed transfer hands to device `e`, at chunk `k` of an array. -/
def payF (e : Dev nD) (k : Fin 16) : Fam → sProp 𝕄
  | .zs => xP e (row (rb e) k) sL (inp m e)
  | .zr => zP e (ck k) fullShare (zrB m e)
  | .xs => rP e (ckc k (dirC e) 896) sRL (rdB m e)
  | .ys => rP e (ckc k (dirC e) 896) sRR (rdB m e)
  | .xr => oP e (cols (rb (xn e)) k (dirC e) 896) fullShare (fin m e)
  | .yr => oP e (cols (rb (yn e)) k (dirC e) 896) fullShare (fin m e)
  | .fxr => oP e (cols (rb (xn e)) k (fiC e) 128) fullShare (fin m e)
  | .fyr => oP e (cols (rb (yn e)) k (fiC e) 128) fullShare (fin m e)
  | .rxr | .ryr => oP e (row (rb (xyn e)) k) fullShare (fin m e)
  | .fxs => oP e (cols (rb (xn e)) k (foC e) 128) sL (fin m e)
  | .fys => oP e (cols (rb (yn e)) k (foC e) 128) sL (fin m e)
  | .rxs => oP e (row (rb (yn e)) k) sR (fin m e)
  | .rys => oP e (row (rb (xn e)) k) sR (fin m e)
  | .co => iprop(oP e (row (rb e) k) fullShare (fin m e) ∗ rP e (ck k) sL (rdB m e))

/-- What payment `δ` of a semaphore of device `e` hands over. -/
def pay (e : Dev nD) : Role → Fin 3 → sProp 𝕄
  | .inl _, δ => bigSep Finset.univ fun k : Fin 16 => giveK (F := F) (nb δ e) k δ
  | .inr (.inl _), _ => iprop(aP e Finset.univ fullShare (rawB m e) ∗ xP e (blk (rb e)) sR (inp m e))
  | .inr (.inr (f, k)), _ => payF m e k f

instance payF_storable (e : Dev nD) (k : Fin 16) (f : Fam) : BI.Storable (upEmb : UEmb _ 𝕄) (payF m e k f) := by
  cases f <;> unfold payF <;> infer_instance

instance pay_storable (e : Dev nD) (ρ : Role) (δ : Fin 3) : BI.Storable (upEmb : UEmb _ 𝕄) (pay m e ρ δ) := by
  rcases ρ with ⟨⟩ | ⟨⟩ | ⟨f, k⟩ <;> unfold pay <;> infer_instance

/-- The schedule: each semaphore has one round. -/
def sched : Rounds.Schedule (GSem nD τ sig) (Fin 3) 𝕄 where
  duties g r := if r = 0 ∧ g.1.2 = .tc then (match roleOf g.2 with | some ρ => dutiesR ρ | none => ∅) else ∅
  unitless _ := False
  amount g _ _ := match roleOf g.2 with | some ρ => amt ρ | none => 1
  payload g _ δ := match roleOf g.2 with | some ρ => pay m g.1.1 ρ δ | none => iprop(emp)
  amount_pos g _ _ _ := by
    cases roleOf g.2 with
    | none => exact Nat.one_pos
    | some ρ => exact amt_pos ρ

instance sched_storable (g : GSem nD τ sig) (r : ℕ) (δ : Fin 3) :
    BI.Storable (upEmb : UEmb _ 𝕄) ((sched (F := F) m).payload g r δ) := by
  show BI.Storable upEmb (match roleOf g.2 with | some ρ => pay m g.1.1 ρ δ | none => iprop(emp))
  split <;> infer_instance

section Sched
variable (c : Dev nD) (ρ : Role)

theorem duties_kcell : (sched (F := F) m).duties (kcell c ρ) 0 = dutiesR ρ := by
  show (if 0 = 0 ∧ (kcell c ρ).1.2 = .tc then (match roleOf (semOf ρ) with | some ρ => dutiesR ρ | none => ∅) else ∅) = _
  rw [if_pos ⟨rfl, rfl⟩, roleOf_semOf]
theorem duties_later (g : GSem nD τ sig) : ∀ r, 1 ≤ r → (sched (F := F) m).duties g r = ∅ :=
  fun r hr => if_neg fun h => by omega
theorem amount_kcell (r δ) : (sched (F := F) m).amount (kcell c ρ) r δ = amt ρ := by
  show (match roleOf (semOf ρ) with | some ρ => amt ρ | none => 1) = _
  rw [roleOf_semOf]
theorem payload_kcell (r δ) : (sched (F := F) m).payload (kcell c ρ) r δ = pay m c ρ δ := by
  show (match roleOf (semOf ρ) with | some ρ => pay m c ρ δ | none => iprop(emp)) = _
  rw [roleOf_semOf]
theorem expect_kcell : (sched (F := F) m).expect (kcell c ρ) 0 = (dutiesR ρ).card * amt ρ := by
  unfold Schedule.expect Schedule.amountOf
  rw [duties_kcell, Finset.sum_congr rfl fun d _ => amount_kcell m c ρ 0 d, Finset.sum_const, smul_eq_mul]

end Sched

/-! ## Levels -/

/-- One payment owed to device `c`'s semaphore. -/
def due (c : Dev nD) (ρ : Role) : CellTallies nD τ sig Unit := tallyAt (kcell c ρ) () (amt ρ)

def L (g : GSem nD τ sig) : Finset Unit := if g.1.2 = .tc then {()} else ∅
def lv (g : GSem nD τ sig) (_ : Unit) : ℕ := match roleOf g.2 with | some ρ => lvl ρ | none => 0

theorem L_of_ne (g : GSem nD τ sig) (h : g.1.2 ≠ .tc) : L g = ∅ := if_neg h
theorem lv_kcell (c : Dev nD) (ρ : Role) (u : Unit) : lv (kcell c ρ) u = lvl ρ := by
  show (match roleOf (semOf ρ) with | some ρ => lvl ρ | none => 0) = _
  rw [roleOf_semOf]

/-- Everything owed is owed to a TensorCore's semaphore of a level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.due {n : ℕ} {c : Dev nD} {ρ : Role} (h : n < lvl ρ) : Above n (due c ρ) := fun g u hg => by
  unfold AllReduce.due at hg
  rw [tallyAt_apply] at hg
  by_cases hh : g = kcell c ρ ∧ u = ()
  · rw [hh.1, lv_kcell]; exact ⟨rfl, h⟩
  · rw [if_neg hh] at hg; exact absurd hg (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)

theorem Above.mono {n n' : ℕ} {O : CellTallies nD τ sig Unit} (h : Above n O) (hn : n' ≤ n) : Above n' O :=
  fun g u hg => ⟨(h g u hg).1, lt_of_le_of_lt hn (h g u hg).2⟩

theorem mayWait (c : Dev nD) (ρ : Role) {O : CellTallies nD τ sig Unit} (h : Above (lvl ρ) O) :
    (levAts L lv : sProp 𝕄) ⊢ MayWait (c : Thread nD τ) (semOf ρ) () O :=
  MayOwe.of_cut (L := L) (lev := lv) (lvl ρ)
    (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact le_of_eq (lv_kcell c ρ ()))
    (fun g u hg => (h g u hg).2)

/-! ## What a device owes -/

/-- The sum of `f` over the last `n` chunk numbers. -/
def rem (f : Fin 16 → CellTallies nD τ sig Unit) : ℕ → CellTallies nD τ sig Unit
  | 0 => 0
  | n + 1 => rem f n + f ⟨15 - n, by omega⟩

/-- What device `c` owes at chunk `k` in the three loops that send. -/
def owedZ (c : Dev nD) (k : Fin 16) : CellTallies nD τ sig Unit := due (zn c) (st .zr k)
def owed1 (c : Dev nD) (k : Fin 16) : CellTallies nD τ sig Unit := due (yn c) (st .yr k) + due (xn c) (st .xr k)
def owedR (c : Dev nD) (k : Fin 16) : CellTallies nD τ sig Unit :=
  if k.val % 2 = 0 then due (xn c) (st .rxr k) else due (yn c) (st .ryr k)
def owed2 (c : Dev nD) (k : Fin 16) : CellTallies nD τ sig Unit :=
  owedR c k + due (zn c) (st .fyr k) + due (zn c) (st .fxr k)

/-- What device `c` owes at the start. -/
def owed0 (c : Dev nD) : CellTallies nD τ sig Unit :=
  rem (owed2 c) 16 + rem (owed1 c) 16 + rem (owedZ c) 16 + due (yn c) bar + due (xn c) bar + due (zn c) bar

theorem Above.rem {n : ℕ} {f : Fin 16 → CellTallies nD τ sig Unit} : ∀ {j : ℕ}, j ≤ 16 →
    (∀ k : Fin 16, 16 - j ≤ k.val → Above n (f k)) → Above n (rem f j)
  | 0, _, _ => Above.zero n
  | j + 1, hj, h => (Above.rem (by omega) fun k hk => h k (by omega)).add (h _ (by show 16 - (j + 1) ≤ 15 - j; omega))

theorem above_owedZ {n : ℕ} (hn : n < 2) (c k) : Above n (owedZ c k) := Above.due hn
theorem above_owed1 {n : ℕ} (hn : n < 3) (c k) : Above n (owed1 c k) := (Above.due hn).add (Above.due hn)
theorem above_owedR {n : ℕ} (hn : n < 100) (c k) : Above n (owedR c k) := by
  unfold owedR; split <;> exact Above.due hn
theorem above_owed2 {n : ℕ} (c) (k : Fin 16) (hn : n < 4 + 2 * k.val) : Above n (owed2 c k) :=
  ((above_owedR (by omega) c k).add (Above.due (show n < 5 + 2 * k.val by omega))).add (Above.due hn)

end Cert.KernelIdeal.AllReduce

end
-- ==== Proof.Steps.lean ====
/- The rules for one effect of the kernel: a wait, a signal, a copy, a transfer to a neighbour. -/
module

public import proofs.«01_k».proof.Proof.Cells
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loops poll a semaphore. -/
abbrev 𝒱₀ : Variants := Variants.none

/-- Running a program of device `c` to the assertion `Q`. -/
abbrev run (c : Dev nD) (p : TcProg F PUnit) (Q : PUnit → sProp 𝕄) : sProp 𝕄 :=
  wp frame (wpE (defs₀ (F := F)) 𝒱₀ (c : Thread nD τ) none) Set.univ p Q

/-- The right to make a payment, that to wait for one, the place before the only round, and a counter at zero. -/
abbrev tok (c : Dev nD) (ρ : Role) (δ : Fin 3 := 0) : sProp 𝕄 := dutyTok (ER (F := F)) (kcell c ρ) 0 δ
abbrev crd (c : Dev nD) (ρ : Role) : sProp 𝕄 := cred (due c ρ)
abbrev pos (c : Dev nD) (ρ : Role) : sProp 𝕄 := atPos (ER (F := F)) (kcell c ρ) 0 ∅ 0
abbrev nil (c : Dev nD) (ρ : Role) : sProp 𝕄 := semVal (kcell c ρ) 0

variable (m : (ℓ : Loc nD τ sig) → Buf (Elt F) ℓ)

/-- What every device knows: the invariants of all the semaphores, that their round has begun, and the levels. -/
def records (K : Dev nD × Role → ℕ) : sProp 𝕄 :=
  iprop((bigSep Finset.univ fun x : Dev nD × Role => cellInv ER (sched m) (K x) (kcell x.1 x.2))
    ∗ (bigSep Finset.univ fun x : Dev nD × Role => reached ER (kcell x.1 x.2) 0) ∗ levAts L lv)

instance records_persistent (K) : BI.Persistent (records (F := F) m K) := by unfold records; infer_instance

/-- What device `c` owes, whatever it has waited on. -/
def owesE (c : Dev nD) (O : CellTallies nD τ sig Unit) : sProp 𝕄 := iprop(∃ W, owes (c : Thread nD τ) O W)

section Rules
variable (K : Dev nD × Role → ℕ)

theorem records_inv (c : Dev nD) (ρ : Role) : records m K ⊢ cellInv ER (sched m) (K (c, ρ)) (kcell c ρ) := by
  unfold records
  iintro ⟨H, -, -⟩
  iapply (show (bigSep Finset.univ fun x : Dev nD × Role => cellInv ER (sched m) (K x) (kcell x.1 x.2)) ⊢ cellInv ER (sched m) (K (c, ρ)) (kcell c ρ)
    from bigSep_elim (Finset.mem_univ (c, ρ))) $$ H
theorem records_reached (c : Dev nD) (ρ : Role) : records m K ⊢ reached ER (kcell c ρ) 0 := by
  unfold records
  iintro ⟨-, H, -⟩
  iapply (show (bigSep Finset.univ fun x : Dev nD × Role => reached (ER (F := F)) (kcell x.1 x.2) 0) ⊢ reached (ER (F := F)) (kcell c ρ) 0
    from bigSep_elim (Finset.mem_univ (c, ρ))) $$ H
theorem records_lev : records m K ⊢ levAts L lv := by
  unfold records
  iintro ⟨-, -, H⟩
  iexact H

/-- Close a semaphore whose round has not been entered. -/
theorem close_unused (c : Dev nD) (ρ : Role) (h : dutiesR ρ = ∅) :
    iprop(records m K ∗ pos (F := F) c ρ) ⊢ iprop(|={Set.univ}=> nil c ρ) := by
  iintro ⟨#HR, Hp⟩
  iapply (cell_close ER (sched m) (Set.mem_univ (K (c, ρ))) (fun h => h) (R := 0) (fun r hr => by
    rcases Nat.eq_zero_or_pos r with rfl | h0
    · rw [duties_kcell, h]
    · exact duties_later m _ r h0)) $$ [Hp]
  isplitr
  · iapply (records_inv m K c ρ); iexact HR
  iexact Hp

variable {Q : PUnit.{1} → sProp (MT nD τ sig Unit (Elt F) ℕ UU ℕ)}

/-- Wait on a semaphore of its own for all that is paid to it: the device comes back with what was handed over, and the
    semaphore's counter, which stays at zero. -/
theorem wait_step (c : Dev nD) (ρ : Role) {n : ℕ} (hn : n = (dutiesR ρ).card * amt ρ) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf ρ) n Kt)
    {O : CellTallies nD τ sig Unit} (hO : Above (lvl ρ) O) :
    iprop(records m K ∗ cred (tallyAt (kcell c ρ) () n) ∗ owesE (F := F) c O ∗ pos (F := F) c ρ)
      ⊢ iprop(((owesE c O ∗ nil c ρ ∗ bigSep (dutiesR ρ) (pay m c ρ)) -∗ Q ⟨⟩) -∗ run c (.op w .ret) Q) := by
  iintro ⟨#HR, Hc, HO, Hp⟩ Hk
  unfold owesE
  icases HO with ⟨%W, HO⟩
  iapply (Rounds.wp_wait_rest_token 𝒱₀ ER (sched m) (c : Thread nD τ) none (κ := K (c, ρ)) hw (Set.mem_univ _) ()
      (O := O) (W := W) (R := 0) (m := 0) (T := ∅) (by rw [Nat.zero_add, hn]; exact (expect_kcell m c ρ).symm)) $$ [Hc HO Hp]
  · isplitr; · iapply (records_inv m K c ρ); iexact HR
    isplitl [Hc]; · iexact Hc
    isplitl [HO]; · iexact HO
    isplitr; · iapply (mayWait c ρ hO); iapply (records_lev m K); iexact HR
    iexact Hp
  iintro ⟨HO, Hp, -, Hpay⟩
  imod (cell_close ER (sched m) (Set.mem_univ (K (c, ρ))) (fun h => h) (R := 0 + 1) (duties_later m (kcell c ρ))) $$ [Hp] with Hz
  · isplitr; · iapply (records_inv m K c ρ); iexact HR
    iexact Hp
  rw [wp_ret]; imodintro
  iapply Hk
  isplitl [HO]; · iexists _; iexact HO
  isplitl [Hz]; · iexact Hz
  iapply (Entails.of_eq (show bigSep ((sched (F := F) m).duties ((c : Thread nD τ), semOf ρ) 0 \ ∅) (fun d => (sched (F := F) m).payload ((c : Thread nD τ), semOf ρ) 0 d)
    = bigSep (dutiesR ρ) (pay m c ρ) by
      rw [show ((c : Thread nD τ), semOf ρ) = kcell c ρ from rfl, duties_kcell, Finset.sdiff_empty]; exact bigSep_congr fun d _ => payload_kcell m c ρ 0 d)) $$ Hpay

/-- The same where one payment is made. -/
theorem wait_one (c : Dev nD) (ρ : Role) (h1 : dutiesR ρ = {0}) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf ρ) (amt ρ) Kt)
    {O : CellTallies nD τ sig Unit} (hO : Above (lvl ρ) O) :
    iprop(records m K ∗ crd (F := F) c ρ ∗ owesE (F := F) c O ∗ pos (F := F) c ρ)
      ⊢ iprop(((owesE c O ∗ nil c ρ ∗ pay m c ρ 0) -∗ Q ⟨⟩) -∗ run c (.op w .ret) Q) := by
  have h := wait_step m K c ρ (Q := Q) (n := amt ρ) (by rw [h1, Finset.card_singleton, Nat.one_mul]) hw hO
  rw [h1, bigSep_singleton] at h
  exact h

/-- Signal a neighbour's barrier. -/
theorem signal_step (c c' : Dev nD) (δ : Fin 3) {O : CellTallies nD τ sig Unit} :
    iprop(records m K ∗ owesE (F := F) c (O + due c' bar) ∗ tok (F := F) c' bar δ ∗ pay m c' bar δ)
      ⊢ iprop((owesE c O -∗ Q ⟨⟩) -∗ run c (.op (.semSignal ((c' : Thread nD τ)) barSem 1) .ret) Q) := by
  iintro ⟨#HR, HO, Ht, Hp⟩ Hk
  unfold owesE
  icases HO with ⟨%W, HO⟩
  iapply (Rounds.wp_signal 𝒱₀ ER (sched m) (c : Thread nD τ) none (dst := (c' : Thread nD τ)) (κ := K (c', bar)) (r := 0)
      (d := δ) (by rw [show ((c' : Thread nD τ), SemLoc.reg barSem) = kcell c' bar from rfl, duties_kcell]; exact Finset.mem_univ _)
      (amount_kcell m c' bar 0 δ) () O rfl) $$ [HO Ht Hp]
  · isplitr; · iapply (records_inv m K c' bar); iexact HR
    isplitl [HO]; · iexact HO
    isplitl [Ht]; · iexact Ht
    isplitl [Hp]; · iapply (show pay m c' bar δ ⊢ (sched (F := F) m).payload ((c' : Thread nD τ), .reg barSem) 0 δ from Entails.of_eq (payload_kcell m c' bar 0 δ).symm); iexact Hp
    iapply (records_reached m K c' bar); iexact HR
  iintro HO
  rw [wp_ret]; imodintro
  iapply Hk
  iexists _; iexact HO

/-- Copy on the device itself, from a share of `src` to all of `dst`. -/
theorem copy_step (c : Dev nD) (ρ : Role) (hu : 0 ∈ dutiesR ρ) {sp sp' : Space} {s : Shape} {src : Memref sig .tc sp s .f32}
    {dst : Memref sig .tc sp' s .f32} {hsrc : src.view.WordExact} {hdst : dst.view.WordExact}
    {hsem : DmaTarget.Typed (nD := nD) (τ := τ) (p := .tc) sp (semOf ρ) (.here dst)} {q : PosShare TreeShare}
    {fs : Buf (Elt F) (src.view.loc (c : Thread nD τ))} {Src Dst : sProp 𝕄}
    (hN : dst.view.amount (semOf ρ) = amt ρ)
    (hS : Src ⊢ (src.view.loc (c : Thread nD τ) ↦[src.view.set]{q} fs))
    (hD : Dst ⊢ iprop(∃ fd, dst.view.loc (c : Thread nD τ) ↦[dst.view.set]{fullShare} fd))
    (hpay : ∀ fd, iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c ρ 0) :
    iprop(records m K ∗ Src ∗ Dst ∗ tok (F := F) c ρ)
      ⊢ iprop((crd c ρ -∗ Q ⟨⟩) -∗ run c (.op (.enqueueDma src (.here dst) (semOf ρ) hsrc hdst hsem) .ret) Q) := by
  iintro ⟨#HR, HS, HD, Ht⟩ Hk
  ihave HD' := hD $$ HD
  icases HD' with ⟨%fd, HD⟩
  iapply (Rounds.wp_copy_pointsTo 𝒱₀ ER (sched m) (c : Thread nD τ) none (κ := K (c, ρ)) (r := 0) (d := 0) (fd := fd) (fs := fs) (q := q)
      (by rw [show ((c : Thread nD τ), semOf ρ) = kcell c ρ from rfl, duties_kcell]; exact hu) () (amt ρ) hN
      (amount_kcell m c ρ 0 0) ((hpay fd).trans (Entails.of_eq (payload_kcell m c ρ 0 0).symm))) $$ [HS HD Ht]
  · isplitr; · iapply (records_inv m K c ρ); iexact HR
    isplitl [HS]; · iapply hS; iexact HS
    isplitl [HD]; · iexact HD
    isplitl [Ht]; · iexact Ht
    iapply (records_reached m K c ρ); iexact HR
  iintro Hc
  rw [wp_ret]; imodintro
  iapply Hk; iexact Hc

/-- Transfer from a share of `src` to all of `dst` on a neighbour. -/
theorem send_step (c c' : Dev nD) (ρs ρr : Role) (hs : 0 ∈ dutiesR ρs) (hr : 0 ∈ dutiesR ρr) {sp sp' : Space} {s : Shape}
    {src : Memref sig .tc sp s .f32} {dst : Memref sig (Dev.tc c' : Thread nD τ).2.kind sp' s .f32} {hsc : dst.view.ref.isScScratch = false}
    {hsrc : src.view.WordExact} {hdst : dst.view.WordExact}
    {hsem : DmaTarget.Typed sp (semOf ρr) (.remote (Dev.tc c' : Thread nD τ) dst (semOf ρs) hsc)} {q : PosShare TreeShare}
    {fs : Buf (Elt F) (src.view.loc (c : Thread nD τ))} {Src Dst : sProp 𝕄} {O : CellTallies nD τ sig Unit}
    (hN : dst.view.amount (semOf ρr) = amt ρr) (hNs : amt ρs = amt ρr)
    (hS : Src ⊢ (src.view.loc (c : Thread nD τ) ↦[src.view.set]{q} fs))
    (hD : Dst ⊢ iprop(∃ fd, dst.view.loc (c' : Thread nD τ) ↦[dst.view.set]{fullShare} fd))
    (hpay₁ : (src.view.loc (c : Thread nD τ) ↦[src.view.set]{q} fs) ⊢ pay m c ρs 0)
    (hpay₂ : ∀ fd, (dst.view.loc (c' : Thread nD τ) ↦[dst.view.set]{fullShare} (dst.view.write (Elt F) fd (src.view.read (Elt F) fs) Finset.univ))
        ⊢ pay m c' ρr 0) :
    iprop(records m K ∗ Src ∗ Dst ∗ owesE (F := F) c (O + due c' ρr) ∗ tok (F := F) c ρs ∗ tok (F := F) c' ρr)
      ⊢ iprop(((crd c ρs ∗ owesE c O) -∗ Q ⟨⟩)
        -∗ run c (.op (.enqueueDma src (.remote (Dev.tc c' : Thread nD τ) dst (semOf ρs) hsc) (semOf ρr) hsrc hdst hsem) .ret) Q) := by
  iintro ⟨#HR, HS, HD, HO, Hts, Htr⟩ Hk
  ihave HD' := hD $$ HD
  icases HD' with ⟨%fd, HD⟩
  unfold owesE
  icases HO with ⟨%W, HO⟩
  iapply (Rounds.wp_send_pointsTo 𝒱₀ ER (sched m) (c : Thread nD τ) none (κ₁ := K (c, ρs)) (κ₂ := K (c', ρr))
      (r₁ := 0) (r₂ := 0) (d₁ := 0) (d₂ := 0) (fd := fd) (fs := fs) (q := q)
      (by rw [show ((c : Thread nD τ), semOf ρs) = kcell c ρs from rfl, duties_kcell]; exact hs)
      (by rw [show ((c' : Thread nD τ), semOf ρr) = kcell c' ρr from rfl, duties_kcell]; exact hr)
      () () (amt ρr) hN ((amount_kcell m c ρs 0 0).trans hNs) (amount_kcell m c' ρr 0 0) O rfl (W := W)
      (hpay₁.trans (Entails.of_eq (payload_kcell m c ρs 0 0).symm))
      ((hpay₂ fd).trans (Entails.of_eq (payload_kcell m c' ρr 0 0).symm))) $$ [HS HD HO Hts Htr]
  · isplitr; · iapply (records_inv m K c ρs); iexact HR
    isplitr; · iapply (records_inv m K c' ρr); iexact HR
    isplitl [HS]; · iapply hS; iexact HS
    isplitl [HD]; · iexact HD
    isplitl [HO]; · iexact HO
    isplitl [Hts]; · iexact Hts
    isplitr; · iapply (records_reached m K c ρs); iexact HR
    isplitl [Htr]; · iexact Htr
    iapply (records_reached m K c' ρr); iexact HR
  iintro ⟨Hc, HO⟩
  rw [wp_ret]; imodintro
  iapply Hk
  isplitl [Hc]
  · iapply (Entails.of_eq (show cred (tallyAt ((c : Thread nD τ), semOf ρs) () (amt ρr)) = crd (F := F) c ρs by rw [← hNs]; rfl)) $$ Hc
  iexists _; iexact HO

end Rules

end Cert.KernelIdeal.AllReduce

end
-- ==== Proof.Ops.lean ====
/- The kernel's own copies, transfers and waits, in terms of the boxes of the buffers they move. -/
module

public import proofs.«01_k».proof.Proof.Steps
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD) (k : Fin 16)

theorem dirC_xn : dirC (xn c) = dirC c := by unfold dirC; rw [zc_xn]
theorem dirC_yn : dirC (yn c) = dirC c := by unfold dirC; rw [zc_yn]
theorem fiC_zn : fiC (zn c) = foC c := by
  have := zc_lt c
  unfold fiC foC; rw [zc_zn]; omega
theorem xyn_xn : ∀ c : Dev nD, xyn (xn c) = yn c := by decide +kernel
theorem xyn_yn : ∀ c : Dev nD, xyn (yn c) = xn c := by decide +kernel
theorem rb_xn_zn : ∀ c : Dev nD, rb (xn (zn c)) = rb (xn c) := by decide +kernel
theorem rb_yn_zn : ∀ c : Dev nD, rb (yn (zn c)) = rb (yn c) := by decide +kernel

/-- A part of a buffer named by two equal sets, with contents equal there. -/
theorem part_eq {ℓ : Loc nD τ sig} {I J : Finset ℓ.ty.shape.Idx} (h : I = J) (q : PosShare TreeShare) {f g : Buf (Elt F) ℓ}
    (hfg : ∀ i ∈ I, f i = g i) : ((ℓ ↦[I]{q} f) : sProp 𝕄) ⊢ (ℓ ↦[J]{q} g) := by
  subst h
  exact Entails.of_eq (pointsTo_congr hfg)

theorem part_any {ℓ : Loc nD τ sig} {I J : Finset ℓ.ty.shape.Idx} (h : J = I) :
    (iprop(∃ f, ℓ ↦[I]{fullShare} f) : sProp 𝕄) ⊢ iprop(∃ f : Buf (Elt F) ℓ, ℓ ↦[J]{fullShare} f) := by
  subst h; exact Entails.refl _

variable {Q : PUnit.{1} → sProp (MT nD τ sig Unit (Elt F) ℕ UU ℕ)}

/-- The wait for a transfer, copy or departure of chunk `k`. -/
theorem await_step (f : Fam) (hu : used f k) {sp sp' : Space} {s s' : Shape} {sem : DmaSem sig} {src : Memref sig .tc sp s .f32}
    {dst : Memref sig .tc sp' s' .f32} {hs : src.view.WordExact} {hd : dst.view.WordExact}
    (hsem : sem = ownDma (.inr (f, k))) (hN : dst.view.dmaCredit = amt (st f k)) {O : CellTallies nD τ sig Unit}
    (hO : Above (lvl (st f k)) O) :
    iprop(records m K ∗ crd (F := F) c (st f k) ∗ owesE (F := F) c O ∗ pos (F := F) c (st f k))
      ⊢ iprop(((owesE c O ∗ nil c (st f k) ∗ payF m c k f) -∗ Q ⟨⟩) -∗ run c (await sem src dst hs hd) Q) := by
  subst hsem
  refine wait_one m K c (st f k) (if_pos hu) (fun Kt => ?_) hO
  rw [← hN]
  exact wpE_waitDma2_eq 𝒱₀ (c : Thread nD τ) none Set.univ Kt

/-- Sending chunk `k` of the argument along z. -/
theorem zSend_step {O : CellTallies nD τ sig Unit} :
    iprop(records m K ∗ xP c (row (rb c) k) sL (inp m c) ∗ zAny (F := F) (zn c) (ck k)
        ∗ owesE (F := F) c (O + due (zn c) (st .zr k)) ∗ tok (F := F) c (st .zs k) ∗ tok (F := F) (zn c) (st .zr k))
      ⊢ iprop(((crd c (st .zs k) ∗ owesE c O) -∗ Q ⟨⟩) -∗ run c (zSend c k) Q) :=
  send_step m K c (zn c) (st .zs k) (st .zr k) (by exact Finset.mem_singleton_self _) (by exact Finset.mem_singleton_self _)
    (src := xChunk c k) (dst := zrChunk k) (q := sL) (fs := inp m c) (by rfl) (by rfl)
    (part_eq (set_xChunk c k).symm _ fun _ _ => rfl) (part_any (ℓ := ((zn c) : Thread nD τ).loc cc0_scratch0) (set_zrChunk k))
    (part_eq (set_xChunk c k) _ fun _ _ => rfl)
    (fun fd => part_eq (set_zrChunk k) _ (written (zrChunk k).view fd _ _ (copied_z m c k)))

/-- Copying the device's own block of the argument. -/
theorem cpRaw_step :
    iprop(records m K ∗ xP c (blk (rb c)) sR (inp m c) ∗ aAny (F := F) c Finset.univ ∗ tok (F := F) c cp)
      ⊢ iprop((crd c cp -∗ Q ⟨⟩) -∗ run c (cpRaw c) Q) :=
  copy_step m K c cp (by exact Finset.mem_singleton_self _) (src := xBlock c) (dst := arM) (q := sR) (fs := inp m c) (by rfl)
    (part_eq (set_xBlock c).symm _ fun _ _ => rfl) (part_any (ℓ := (c : Thread nD τ).loc cc0_scratch1) (View.set_whole cc0_scratch1))
    (fun fd => BIClass.sep_mono (part_eq (View.set_whole cc0_scratch1) _ (written arM.view fd _ _ (copied_raw m c)))
      (part_eq (set_xBlock c) _ fun _ _ => rfl))

/-- Sending chunk `k` of the sums along x. -/
theorem xSend_step {O : CellTallies nD τ sig Unit} :
    iprop(records m K ∗ rP c (ckc k (dirC c) 896) sRL (rdB m c) ∗ oAny (F := F) (xn c) (cols (rb c) k (dirC c) 896)
        ∗ owesE (F := F) c (O + due (xn c) (st .xr k)) ∗ tok (F := F) c (st .xs k) ∗ tok (F := F) (xn c) (st .xr k))
      ⊢ iprop(((crd c (st .xs k) ∗ owesE c O) -∗ Q ⟨⟩) -∗ run c (xSend c k) Q) :=
  send_step m K c (xn c) (st .xs k) (st .xr k) (by exact Finset.mem_singleton_self _) (by exact Finset.mem_singleton_self _)
    (src := rdDir c k) (dst := outDir c k) (q := sRL) (fs := rdB m c) (by rfl) (by rfl)
    (part_eq (set_rdDir c k).symm _ fun _ _ => rfl) (part_any (ℓ := ((xn c) : Thread nD τ).loc main_v1) (set_outDir c k))
    (part_eq (set_rdDir c k) _ fun _ _ => rfl)
    (fun fd => part_eq ((set_outDir c k).trans (by rw [xn_xn, dirC_xn])) _ (written (outDir c k).view fd _ _ (copied_x m c k)))

/-- Sending chunk `k` of the sums along y. -/
theorem ySend_step {O : CellTallies nD τ sig Unit} :
    iprop(records m K ∗ rP c (ckc k (dirC c) 896) sRR (rdB m c) ∗ oAny (F := F) (yn c) (cols (rb c) k (dirC c) 896)
        ∗ owesE (F := F) c (O + due (yn c) (st .yr k)) ∗ tok (F := F) c (st .ys k) ∗ tok (F := F) (yn c) (st .yr k))
      ⊢ iprop(((crd c (st .ys k) ∗ owesE c O) -∗ Q ⟨⟩) -∗ run c (ySend c k) Q) :=
  send_step m K c (yn c) (st .ys k) (st .yr k) (by exact Finset.mem_singleton_self _) (by exact Finset.mem_singleton_self _)
    (src := rdDir c k) (dst := outDir c k) (q := sRR) (fs := rdB m c) (by rfl) (by rfl)
    (part_eq (set_rdDir c k).symm _ fun _ _ => rfl) (part_any (ℓ := ((yn c) : Thread nD τ).loc main_v1) (set_outDir c k))
    (part_eq (set_rdDir c k) _ fun _ _ => rfl)
    (fun fd => part_eq ((set_outDir c k).trans (by rw [yn_yn, dirC_yn])) _ (written (outDir c k).view fd _ _ (copied_y m c k)))

/-- Copying chunk `k` of the sums into the result. -/
theorem coCopy_step :
    iprop(records m K ∗ rP c (ck k) sL (rdB m c) ∗ oAny (F := F) c (row (rb c) k) ∗ tok (F := F) c (st .co k))
      ⊢ iprop((crd c (st .co k) -∗ Q ⟨⟩) -∗ run c (coCopy c k) Q) :=
  copy_step m K c (st .co k) (by exact Finset.mem_singleton_self _) (src := rdChunk k) (dst := outOwn c k) (q := sL) (fs := rdB m c) (by rfl)
    (part_eq (set_rdChunk k).symm _ fun _ _ => rfl) (part_any (ℓ := (c : Thread nD τ).loc main_v1) (set_outOwn c k))
    (fun fd => BIClass.sep_mono (part_eq (set_outOwn c k) _ (written (outOwn c k).view fd _ _ (copied_out m c k)))
      (part_eq (set_rdChunk k) _ fun _ _ => rfl))

/-- Forwarding of the x neighbour's chunk. -/
theorem fxSend_step {O : CellTallies nD τ sig Unit} :
    iprop(records m K ∗ oP c (cols (rb (xn c)) k (foC c) 128) sL (fin m c) ∗ oAny (F := F) (zn c) (cols (rb (xn c)) k (foC c) 128)
        ∗ owesE (F := F) c (O + due (zn c) (st .fxr k)) ∗ tok (F := F) c (st .fxs k) ∗ tok (F := F) (zn c) (st .fxr k))
      ⊢ iprop(((crd c (st .fxs k) ∗ owesE c O) -∗ Q ⟨⟩) -∗ run c (fxSend c k) Q) :=
  send_step m K c (zn c) (st .fxs k) (st .fxr k) (by exact Finset.mem_singleton_self _) (by exact Finset.mem_singleton_self _)
    (src := fxOut c k) (dst := fxOut c k) (q := sL) (fs := fin m c) (by rfl) (by rfl)
    (part_eq (set_fxOut c k).symm _ fun _ _ => rfl) (part_any (ℓ := ((zn c) : Thread nD τ).loc main_v1) (set_fxOut c k))
    (part_eq (set_fxOut c k) _ fun _ _ => rfl)
    (fun fd => part_eq ((set_fxOut c k).trans (by rw [rb_xn_zn, fiC_zn])) _ (written (fxOut c k).view fd _ _ (copied_fx m c k)))

/-- Forwarding of the y neighbour's chunk. -/
theorem fySend_step {O : CellTallies nD τ sig Unit} :
    iprop(records m K ∗ oP c (cols (rb (yn c)) k (foC c) 128) sL (fin m c) ∗ oAny (F := F) (zn c) (cols (rb (yn c)) k (foC c) 128)
        ∗ owesE (F := F) c (O + due (zn c) (st .fyr k)) ∗ tok (F := F) c (st .fys k) ∗ tok (F := F) (zn c) (st .fyr k))
      ⊢ iprop(((crd c (st .fys k) ∗ owesE c O) -∗ Q ⟨⟩) -∗ run c (fySend c k) Q) :=
  send_step m K c (zn c) (st .fys k) (st .fyr k) (by exact Finset.mem_singleton_self _) (by exact Finset.mem_singleton_self _)
    (src := fyOut c k) (dst := fyOut c k) (q := sL) (fs := fin m c) (by rfl) (by rfl)
    (part_eq (set_fyOut c k).symm _ fun _ _ => rfl) (part_any (ℓ := ((zn c) : Thread nD τ).loc main_v1) (set_fyOut c k))
    (part_eq (set_fyOut c k) _ fun _ _ => rfl)
    (fun fd => part_eq ((set_fyOut c k).trans (by rw [rb_yn_zn, fiC_zn])) _ (written (fyOut c k).view fd _ _ (copied_fy m c k)))

/-- Relaying the y neighbour's chunk along x. -/
theorem rxSend_step (h : k.val % 2 = 0) {O : CellTallies nD τ sig Unit} :
    iprop(records m K ∗ oP c (row (rb (yn c)) k) sR (fin m c) ∗ oAny (F := F) (xn c) (row (rb (yn c)) k)
        ∗ owesE (F := F) c (O + due (xn c) (st .rxr k)) ∗ tok (F := F) c (st .rxs k) ∗ tok (F := F) (xn c) (st .rxr k))
      ⊢ iprop(((crd c (st .rxs k) ∗ owesE c O) -∗ Q ⟨⟩) -∗ run c (rxSend c k) Q) :=
  send_step m K c (xn c) (st .rxs k) (st .rxr k) (by show 0 ∈ (if k.val % 2 = 0 then _ else _); rw [if_pos h]; exact Finset.mem_singleton_self _)
    (by show 0 ∈ (if k.val % 2 = 0 then _ else _); rw [if_pos h]; exact Finset.mem_singleton_self _)
    (src := ryFull c k) (dst := ryFull c k) (q := sR) (fs := fin m c) (by rfl) (by rfl)
    (part_eq (set_ryFull c k).symm _ fun _ _ => rfl) (part_any (ℓ := ((xn c) : Thread nD τ).loc main_v1) (set_ryFull c k))
    (part_eq (set_ryFull c k) _ fun _ _ => rfl)
    (fun fd => part_eq ((set_ryFull c k).trans (by rw [xyn_xn])) _ (written (ryFull c k).view fd _ _ (copied_rx m c k)))

/-- Relaying the x neighbour's chunk along y. -/
theorem rySend_step (h : k.val % 2 = 1) {O : CellTallies nD τ sig Unit} :
    iprop(records m K ∗ oP c (row (rb (xn c)) k) sR (fin m c) ∗ oAny (F := F) (yn c) (row (rb (xn c)) k)
        ∗ owesE (F := F) c (O + due (yn c) (st .ryr k)) ∗ tok (F := F) c (st .rys k) ∗ tok (F := F) (yn c) (st .ryr k))
      ⊢ iprop(((crd c (st .rys k) ∗ owesE c O) -∗ Q ⟨⟩) -∗ run c (rySend c k) Q) :=
  send_step m K c (yn c) (st .rys k) (st .ryr k) (by show 0 ∈ (if k.val % 2 = 1 then _ else _); rw [if_pos h]; exact Finset.mem_singleton_self _)
    (by show 0 ∈ (if k.val % 2 = 1 then _ else _); rw [if_pos h]; exact Finset.mem_singleton_self _)
    (src := rxFull c k) (dst := rxFull c k) (q := sR) (fs := fin m c) (by rfl) (by rfl)
    (part_eq (set_rxFull c k).symm _ fun _ _ => rfl) (part_any (ℓ := ((yn c) : Thread nD τ).loc main_v1) (set_rxFull c k))
    (part_eq (set_rxFull c k) _ fun _ _ => rfl)
    (fun fd => part_eq ((set_rxFull c k).trans (by rw [xyn_yn])) _ (written (rxFull c k).view fd _ _ (copied_ry m c k)))

end Cert.KernelIdeal.AllReduce

end
-- ==== Proof.Pieces.lean ====
/- Splitting and joining pieces of the buffers, and the rule for a loop over the chunks. -/
module

public import proofs.«01_k».proof.Proof.Ops
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Boxes that make up boxes -/

section Sets
variable (c : Dev nD) (b : ℕ) (k : Fin 16)

theorem fo_sub_dir : cols b k (foC c) 128 ⊆ cols b k (dirC c) 896 := by
  intro i
  rw [mem_box, mem_box]
  have := zc_lt c
  unfold foC dirC
  omega
theorem dir_disj_fi : Disjoint (cols b k (dirC c) 896) (cols b k (fiC c) 128) := by
  apply box_disjoint
  have := zc_lt c
  unfold fiC dirC
  omega
theorem dir_union_fi : cols b k (dirC c) 896 ∪ cols b k (fiC c) 128 = row b k := by
  ext i
  have := zc_lt c
  rw [Finset.mem_union, mem_box, mem_box, mem_box]
  unfold fiC dirC
  omega
theorem dir_sub_ck : ckc k (dirC c) 896 ⊆ ck k := by
  intro i
  rw [mem_box, mem_box]
  have := zc_lt c
  unfold dirC
  omega
end Sets

/-! ## Pieces of buffers -/

section Pieces
variable (c : Dev nD) (b : ℕ) (k : Fin 16) (f : Vec F S16384x1024 .f32) (g : Vec F S4096x1024 .f32)

/-- What is left of the columns that arrive along x or y when those forwarded are lent. -/
abbrev mid : Finset S16384x1024.Idx := cols b k (dirC c) 896 \ cols b k (foC c) 128

/-- What has arrived along x or y: the columns to forward, half of the rest, and half of the whole to relay. -/
theorem split_dir : (oP c (cols b k (dirC c) 896) fullShare f : sProp 𝕄)
    ⊢ iprop(oP c (cols b k (foC c) 128) sL f ∗ oP c (mid c b k) sL f ∗ oP c (cols b k (dirC c) 896) sR f) := by
  iintro H
  ihave H' := (pointsTo_share (PosShare.mem_left_op_right fullShare)).1 $$ H
  icases H' with ⟨Hl, Hr⟩
  ihave H' := (pointsTo_split_subset (fo_sub_dir c b k)).1 $$ Hl
  icases H' with ⟨H1, H2⟩
  isplitl [H1]; · iexact H1
  isplitl [H2]; · iexact H2
  iexact Hr

theorem split_fi : (oP c (cols b k (fiC c) 128) fullShare f : sProp 𝕄)
    ⊢ iprop(oP c (cols b k (fiC c) 128) sL f ∗ oP c (cols b k (fiC c) 128) sR f) :=
  (pointsTo_share (PosShare.mem_left_op_right fullShare)).1

/-- The columns that arrive directly and those that arrive forwarded are the chunk. -/
theorem join_row (q : PosShare TreeShare) : (iprop(oP c (cols b k (dirC c) 896) q f ∗ oP c (cols b k (fiC c) 128) q f) : sProp 𝕄)
    ⊢ oP c (row b k) q f := by
  have h := (pointsTo_union (ℓ := (c : Thread nD τ).loc main_v1) (q := q) (f := f) (Ix := Unit) (Name := ℕ) (U := UU) (Lvl := ℕ)
    (Val := Elt F) (dir_disj_fi c b k)).2
  rw [dir_union_fi] at h
  exact h

/-- The pieces of a chunk that was forwarded and relayed are the chunk. -/
theorem join_all : (iprop(oP c (cols b k (foC c) 128) sL f ∗ oP c (mid c b k) sL f ∗ oP c (cols b k (fiC c) 128) sL f
      ∗ oP c (row b k) sR f) : sProp 𝕄) ⊢ oP c (row b k) fullShare f := by
  iintro ⟨H1, H2, H3, H4⟩
  iapply (pointsTo_share (PosShare.mem_left_op_right fullShare)).2
  isplitr [H4]
  · iapply (join_row c b k f sL)
    isplitr [H3]
    · iapply (pointsTo_split_subset (fo_sub_dir c b k)).2
      isplitl [H1]; · iexact H1
      iexact H2
    iexact H3
  iexact H4

/-- The sums of a chunk: half to copy, and a quarter of the columns that travel for each of x and y. -/
theorem split_sum : (rP c (ck k) fullShare g : sProp 𝕄)
    ⊢ iprop(rP c (ck k) sL g ∗ rP c (ckc k (dirC c) 896) sRL g ∗ rP c (ckc k (dirC c) 896) sRR g ∗ rP c (ck k \ ckc k (dirC c) 896) sR g) := by
  iintro H
  ihave H' := (pointsTo_share (PosShare.mem_left_op_right fullShare)).1 $$ H
  icases H' with ⟨Hl, Hr⟩
  ihave H' := (pointsTo_split_subset (dir_sub_ck c k)).1 $$ Hr
  icases H' with ⟨H1, H2⟩
  ihave H' := (pointsTo_share (PosShare.mem_left_op_right fullShare.right)).1 $$ H1
  icases H' with ⟨H3, H4⟩
  isplitl [Hl]; · iexact Hl
  isplitl [H3]; · iexact H3
  isplitl [H4]; · iexact H4
  iexact H2

theorem join_sum : (iprop(rP c (ck k) sL g ∗ rP c (ckc k (dirC c) 896) sRL g ∗ rP c (ckc k (dirC c) 896) sRR g ∗ rP c (ck k \ ckc k (dirC c) 896) sR g) : sProp 𝕄)
    ⊢ rP c (ck k) fullShare g := by
  iintro ⟨Hl, H3, H4, H2⟩
  iapply (pointsTo_share (PosShare.mem_left_op_right fullShare)).2
  isplitl [Hl]; · iexact Hl
  iapply (pointsTo_split_subset (dir_sub_ck c k)).2
  isplitr [H2]
  · iapply (pointsTo_share (PosShare.mem_left_op_right fullShare.right)).2
    isplitl [H3]; · iexact H3
    iexact H4
  iexact H2

end Pieces

/-! ## Sequencing -/

theorem run_bind (c : Dev nD) (p : TcProg F PUnit) (k : PUnit → TcProg F PUnit) (Q : PUnit.{1} → sProp 𝕄) :
    run c (p >>= k) Q = run c p (fun a => run c (k a) Q) := wp_bind _ _ _ _ _ _

theorem run_skip (c : Dev nD) (Q : PUnit.{1} → sProp 𝕄) : Q ⟨⟩ ⊢ run c (pure ⟨⟩) Q := fupd_intro

/-- Run a program, then go on from what it leaves. -/
theorem run_wand (c : Dev nD) (p : TcProg F PUnit) {P R : sProp 𝕄} {Q : PUnit.{1} → sProp 𝕄} (h : P ⊢ run c p (fun _ => R)) :
    P ⊢ iprop((R -∗ Q ⟨⟩) -∗ run c p Q) := by
  iintro H Hk
  ihave H' := h $$ H
  iapply (wp_wand_r frame (wpE (defs₀ (F := F)) 𝒱₀ (c : Thread nD τ) none) Set.univ)
  isplitl [H']; · iexact H'
  iintro %u HR
  iapply Hk; iexact HR

/-! ## Loops over the chunks -/

/-- The last `n` chunk numbers. -/
def last (n : ℕ) : Finset (Fin 16) := Finset.univ.filter fun k => 16 - n ≤ k.val

theorem last_16 : last 16 = Finset.univ := by decide
theorem last_0 : last 0 = ∅ := by decide
theorem last_succ {n : ℕ} (hn : n < 16) : last (n + 1) = insert ⟨15 - n, by omega⟩ (last n) := by
  ext k
  simp only [last, Finset.mem_insert, Finset.mem_filter, Finset.mem_univ, true_and, Fin.ext_iff]
  have := k.isLt
  omega
theorem not_mem_last {n : ℕ} (hn : n < 16) : (⟨15 - n, by omega⟩ : Fin 16) ∉ last n := by
  simp only [last, Finset.mem_filter, Finset.mem_univ, true_and]
  omega

theorem bigSep_push {n : ℕ} (hn : n < 16) (A : Fin 16 → sProp 𝕄) :
    bigSep (last (n + 1)) A = iprop(A ⟨15 - n, by omega⟩ ∗ bigSep (last n) A) := by
  rw [last_succ hn]; exact bigSep_insert (not_mem_last hn)

/-- A loop over the last `n` chunks: what each needs and gives, and what is passed along. -/
theorem loop_from (c : Dev nD) (f : Fin 16 → TcProg F PUnit) (S : ℕ → sProp 𝕄) (A B : Fin 16 → sProp 𝕄)
    (h : ∀ n (hn : n < 16), iprop(S (n + 1) ∗ A ⟨15 - n, by omega⟩) ⊢ run c (f ⟨15 - n, by omega⟩) (fun _ => iprop(S n ∗ B ⟨15 - n, by omega⟩))) :
    ∀ n, n ≤ 16 → iprop(S n ∗ bigSep (last n) A) ⊢ run c (loopFrom f n) (fun _ => iprop(S 0 ∗ bigSep (last n) B))
  | 0, _ => by
    unfold loopFrom
    rw [last_0, bigSep_empty, bigSep_empty]
    show _ ⊢ wp _ _ _ (Prog.ret _) _
    rw [wp_ret]
    iintro H
    imodintro
    iexact H
  | n + 1, hn => by
    unfold loopFrom
    rw [run_bind, bigSep_push (by omega), bigSep_push (by omega)]
    iintro ⟨HS, HA, HAs⟩
    iapply (run_wand c _ (h n (by omega))) $$ [HS HA]
    · isplitl [HS]; · iexact HS
      iexact HA
    iintro ⟨HS, HB⟩
    iapply (run_wand c _ (loop_from c f S A B h n (by omega))) $$ [HS HAs]
    · isplitl [HS]; · iexact HS
      iexact HAs
    iintro ⟨HS, HBs⟩
    isplitl [HS]; · iexact HS
    isplitl [HB]; · iexact HB
    iexact HBs

/-- The whole loop. -/
theorem loop_rule (c : Dev nD) (f : Fin 16 → TcProg F PUnit) (S : ℕ → sProp 𝕄) (A B : Fin 16 → sProp 𝕄)
    (h : ∀ n (hn : n < 16), iprop(S (n + 1) ∗ A ⟨15 - n, by omega⟩) ⊢ run c (f ⟨15 - n, by omega⟩) (fun _ => iprop(S n ∗ B ⟨15 - n, by omega⟩))) :
    iprop(S 16 ∗ bigSep Finset.univ A) ⊢ run c (loopFrom f 16) (fun _ => iprop(S 0 ∗ bigSep Finset.univ B)) := by
  have := loop_from c f S A B h 16 le_rfl
  rw [last_16] at this
  exact this

end Cert.KernelIdeal.AllReduce

end
-- ==== Proof.Sums.lean ====
/- The first two loops: a chunk of the argument is sent along z; the sum of a chunk is formed and sent on. -/
module

public import proofs.«01_k».proof.Proof.Pieces
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-! ## Loops with what is owed -/

/-- A loop that at each chunk `k` pays `f k`, passing `T` along. -/
theorem owed_loop (prog : Fin 16 → TcProg F PUnit) (O : CellTallies nD τ sig Unit) (f : Fin 16 → CellTallies nD τ sig Unit)
    (T : ℕ → sProp 𝕄) (A B : Fin 16 → sProp 𝕄)
    (h : ∀ k : Fin 16, iprop(records m K ∗ owesE (F := F) c (O + rem f (15 - k.val) + f k) ∗ T k.val ∗ A k)
      ⊢ run c (prog k) (fun _ => iprop(owesE (F := F) c (O + rem f (15 - k.val)) ∗ T (k.val + 1) ∗ B k))) :
    iprop(records m K ∗ owesE (F := F) c (O + rem f 16) ∗ T 0 ∗ bigSep Finset.univ A)
      ⊢ run c (loopFrom prog 16) (fun _ => iprop(owesE (F := F) c O ∗ T 16 ∗ bigSep Finset.univ B)) := by
  have hl := loop_rule c prog (fun n => iprop(records m K ∗ owesE (F := F) c (O + rem f n) ∗ T (16 - n))) A B (fun n hn => by
    have hk := h ⟨15 - n, by omega⟩
    have e1 : 15 - (15 - n) = n := by omega
    have e2 : 16 - (n + 1) = 15 - n := by omega
    have e3 : 15 - n + 1 = 16 - n := by omega
    simp only [e1, e3] at hk
    rw [e2, show O + rem f (n + 1) = O + rem f n + f ⟨15 - n, by omega⟩ from (add_assoc _ _ _).symm]
    iintro ⟨⟨#HR, HO, HT⟩, HA⟩
    iapply (run_wand c _ hk) $$ [HO HT HA]
    · isplitr; · iexact HR
      isplitl [HO]; · iexact HO
      isplitl [HT]; · iexact HT
      iexact HA
    iintro ⟨HO, HT, HB⟩
    isplitr [HB]
    · isplitr; · iexact HR
      isplitl [HO]; · iexact HO
      iexact HT
    iexact HB)
  iintro ⟨#HR, HO, HT, HA⟩
  iapply (run_wand c _ hl) $$ [HO HT HA]
  · isplitr [HA]
    · isplitr; · iexact HR
      isplitl [HO]; · iexact HO
      iexact HT
    iexact HA
  iintro ⟨⟨-, HO, HT⟩, HB⟩
  isplitl [HO]
  · iapply (Entails.of_eq (show owesE (F := F) c (O + rem f 0) = owesE c O by rw [show O + rem f 0 = O from add_zero O])) $$ HO
  isplitl [HT]; · iexact HT
  iexact HB

/-- A loop that pays nothing, nothing being owed. -/
theorem plain_loop (prog : Fin 16 → TcProg F PUnit) (A B : Fin 16 → sProp 𝕄)
    (h : ∀ k : Fin 16, iprop(records m K ∗ owesE (F := F) c 0 ∗ A k) ⊢ run c (prog k) (fun _ => iprop(owesE (F := F) c 0 ∗ B k))) :
    iprop(records m K ∗ owesE (F := F) c 0 ∗ bigSep Finset.univ A)
      ⊢ run c (loopFrom prog 16) (fun _ => iprop(owesE (F := F) c 0 ∗ bigSep Finset.univ B)) := by
  have hl := loop_rule c prog (fun n => iprop(records m K ∗ owesE (F := F) c 0)) A B (fun n hn => by
    iintro ⟨⟨#HR, HO⟩, HA⟩
    iapply (run_wand c _ (h _)) $$ [HO HA]
    · isplitr; · iexact HR
      isplitl [HO]; · iexact HO
      iexact HA
    iintro ⟨HO, HB⟩
    isplitr [HB]
    · isplitr; · iexact HR
      iexact HO
    iexact HB)
  iintro ⟨#HR, HO, HA⟩
  iapply (run_wand c _ hl) $$ [HO HA]
  · isplitr [HA]
    · isplitr; · iexact HR
      iexact HO
    iexact HA
  iintro ⟨⟨-, HO⟩, HB⟩
  isplitl [HO]; · iexact HO
  iexact HB

variable (k : Fin 16)

/-! ## Sending along z -/

/-- What sending chunk `k` along z takes. -/
def AZ : sProp 𝕄 :=
  iprop(xP c (row (rb c) k) sL (inp m c) ∗ zAny (F := F) (zn c) (ck k) ∗ tok (F := F) c (st .zs k) ∗ tok (F := F) (zn c) (st .zr k))

theorem chunkZ (O : CellTallies nD τ sig Unit) :
    iprop(records m K ∗ owesE (F := F) c (O + owedZ c k) ∗ emp ∗ AZ m c k)
      ⊢ run c (zSend c k) (fun _ => iprop(owesE (F := F) c O ∗ emp ∗ crd (F := F) c (st .zs k))) := by
  unfold AZ owedZ
  iintro ⟨#HR, HO, -, Hx, Hz, Ht, Ht'⟩
  iapply (zSend_step m K c k (O := O)) $$ [HO Hx Hz Ht Ht']
  · isplitr; · iexact HR
    isplitl [Hx]; · iexact Hx
    isplitl [Hz]; · iexact Hz
    isplitl [HO]; · iexact HO
    isplitl [Ht] <;> iassumption
  iintro ⟨Hc, HO⟩
  isplitl [HO]; · iexact HO
  isplitr; · iempintro
  iexact Hc

/-! ## The sums -/

/-- The copy of the device's own block: under way before the first chunk, done after it. -/
def cpS : ℕ → sProp 𝕄
  | 0 => iprop(crd (F := F) c cp ∗ pos (F := F) c cp)
  | _ + 1 => iprop(aP c Finset.univ fullShare (rawB m c) ∗ xP c (blk (rb c)) sR (inp m c) ∗ nil (F := F) c cp)

theorem cp_wait {O : CellTallies nD τ sig Unit} (hO : Above 0 O) :
    iprop(records m K ∗ owesE (F := F) c O ∗ cpS m c k.val)
      ⊢ run c (cpAwait c k) (fun _ => iprop(owesE (F := F) c O ∗ cpS m c (k.val + 1))) := by
  unfold cpAwait
  by_cases h : k.val = 0
  · rw [if_pos h, h]
    unfold cpS
    iintro ⟨#HR, HO, Hc, Hp⟩
    iapply (wait_one m K c cp rfl (w := .waitDma2 cc0_scratch17.sem (xBlock c) arM (View.wordExact_bits rfl) (Memref.isWhole_whole cc0_scratch1).wordExact)
      (fun Kt => wpE_waitDma2_eq 𝒱₀ (c : Thread nD τ) none Set.univ Kt) hO) $$ [HO Hc Hp]
    · isplitr; · iexact HR
      isplitl [Hc]; · iexact Hc
      isplitl [HO] <;> iassumption
    iintro ⟨HO, Hz, Hpay⟩
    simp only [pay]
    icases Hpay with ⟨Ha, Hx⟩
    isplitl [HO]; · iexact HO
    isplitl [Ha]; · iexact Ha
    isplitl [Hx] <;> iassumption
  · rw [if_neg h]
    obtain ⟨j, hj⟩ := Nat.exists_eq_succ_of_ne_zero h
    rw [hj]
    unfold cpS
    iintro ⟨-, HO, H⟩
    iapply (run_skip c _)
    isplitl [HO] <;> iassumption

theorem load_step {mm : Memref sig .tc .vmem S4096x1024 .f32} {S : Finset (Idx (mm.view.loc (c : Thread nD τ)))} {q : PosShare TreeShare}
    {f : Buf (Elt F) (mm.view.loc (c : Thread nD τ))} (hS : (mm.access (ckRect k)).set ⊆ S) {hl} {kk : Vec F S256x1024 .f32 → TcProg F PUnit}
    {Q : PUnit.{1} → sProp 𝕄} :
    ((mm.view.loc (c : Thread nD τ) ↦[S]{q} f) : sProp 𝕄)
      ⊢ iprop(((mm.view.loc (c : Thread nD τ) ↦[S]{q} f) -∗ run c (kk ((mm.access (ckRect k)).read (Elt F) f)) Q)
        -∗ run c ((Prog.lift (.load mm (ckRect k).toLoadRect hl) : TcProg F (Vec F S256x1024 .f32)) >>= kk) Q) :=
  wp_load_rect 𝒱₀ (c : Thread nD τ) none Set.univ (m := mm) (r := ckRect k) hS

theorem acc_ar : ((arM : Memref sig .tc .vmem S4096x1024 .f32).access (ckRect k)).set ⊆ Finset.univ := Finset.subset_univ _
theorem acc_zr : ((zrM : Memref sig .tc .vmem S4096x1024 .f32).access (ckRect k)).set = ck k := (View.set_slice_whole cc0_scratch0 _).trans (set_ckRect k)
theorem acc_rd : ((rdM : Memref sig .tc .vmem S4096x1024 .f32).access (ckRect k)).set = ck k := (View.set_slice_whole cc0_scratch2 _).trans (set_ckRect k)

/-- Forming the sum of chunk `k`: the three loads and the store. -/
theorem sum_step {kk : PUnit.{1} → TcProg F PUnit} {Q : PUnit.{1} → sProp 𝕄} :
    iprop(aP c Finset.univ fullShare (rawB m c) ∗ zP c (ck k) fullShare (zrB m c) ∗ rAny (F := F) c (ck k))
      ⊢ iprop(((aP c Finset.univ fullShare (rawB m c) ∗ zP c (ck k) fullShare (zrB m c) ∗ rP c (ck k) fullShare (rdB m c)) -∗ run c (kk ⟨⟩) Q)
        -∗ run c ((Prog.lift (.load arM (ckRect k).toLoadRect (View.loadsAt_vmem h_S256x1024)) : TcProg F (Vec F S256x1024 .f32)) >>= fun a =>
          (Prog.lift (.load zrM (ckRect k).toLoadRect (View.loadsAt_vmem h_S256x1024)) : TcProg F (Vec F S256x1024 .f32)) >>= fun b =>
          (Prog.lift (.load rdM (ckRect k).toLoadRect (View.loadsAt_vmem h_S256x1024)) : TcProg F (Vec F S256x1024 .f32)) >>= fun _ =>
          Prog.lift (.store rdM (ckRect k) (k0_pay1 a b) Finset.univ (View.stores_vmem_bits_univ h_S256x1024 rfl) (.inl rfl)) >>= kk) Q) := by
  iintro ⟨Ha, Hz, ⟨%g, Hr⟩⟩ Hk
  iapply (load_step c k (mm := arM) (f := rawB m c) (acc_ar k)) $$ Ha
  iintro Ha
  iapply (load_step c k (mm := zrM) (f := zrB m c) (S := ck k) (le_of_eq (acc_zr k))) $$ Hz
  iintro Hz
  iapply (load_step c k (mm := rdM) (f := g) (S := ck k) (le_of_eq (acc_rd k))) $$ Hr
  iintro Hr
  iapply (wp_store 𝒱₀ (c : Thread nD τ) none Set.univ (m := rdM) (r := ckRect k) (Mk := Finset.univ) (S := ck k) (f := g)
    (le_of_eq (acc_rd k))) $$ Hr
  iintro Hr
  iapply Hk
  isplitl [Ha]; · iexact Ha
  isplitl [Hz]; · iexact Hz
  ihave Hr' := (part_eq (ℓ := (c : Thread nD τ).loc cc0_scratch2) (I := ck k) rfl fullShare (fun i hi => written (rdM.access (ckRect k)) g _ _ (stored m c k) i
    (by rw [acc_rd k]; exact hi))) $$ Hr
  iexact Hr'

/-- What chunk `k` of the second loop takes, and what it leaves. -/
def A1 : sProp 𝕄 :=
  iprop(crd (F := F) c (st .zr k) ∗ pos (F := F) c (st .zr k) ∗ rAny (F := F) c (ck k)
    ∗ tok (F := F) c (st .xs k) ∗ tok (F := F) (xn c) (st .xr k) ∗ oAny (F := F) (xn c) (cols (rb c) k (dirC c) 896)
    ∗ tok (F := F) c (st .ys k) ∗ tok (F := F) (yn c) (st .yr k) ∗ oAny (F := F) (yn c) (cols (rb c) k (dirC c) 896)
    ∗ tok (F := F) c (st .co k) ∗ oAny (F := F) c (row (rb c) k))
def B1 : sProp 𝕄 :=
  iprop((crd (F := F) c (st .xs k) ∗ crd (F := F) c (st .ys k)) ∗ crd (F := F) c (st .co k)
    ∗ nil (F := F) c (st .zr k) ∗ zP c (ck k) fullShare (zrB m c) ∗ rP c (ck k \ ckc k (dirC c) 896) sR (rdB m c))

set_option maxHeartbeats 2000000 in
theorem chunk1 {O : CellTallies nD τ sig Unit} (hO : Above 2 O) :
    iprop(records m K ∗ owesE (F := F) c (O + owed1 c k) ∗ cpS m c k.val ∗ A1 (F := F) c k)
      ⊢ run c (step1 c k) (fun _ => iprop(owesE (F := F) c O ∗ cpS m c (k.val + 1) ∗ B1 m c k)) := by
  have hO1 : Above 2 (O + owed1 c k) := hO.add (above_owed1 (by decide) c k)
  unfold step1 A1 B1
  rw [run_bind]
  iintro ⟨#HR, HO, HT, Hc, Hp, Hr, Hxs, Hxr, Hox, Hys, Hyr, Hoy, Hco, Ho⟩
  iapply (await_step m K c k .zr trivial (sem := semAt cc0_scratch4 k) (src := xChunk c k) (dst := zrChunk k) (hs := View.wordExact_bits rfl) (hd := View.wordExact_bits rfl) rfl rfl hO1) $$ [HO Hc Hp]
  · isplitr; · iexact HR
    isplitl [Hc]; · iexact Hc
    isplitl [HO] <;> iassumption
  iintro ⟨HO, Hn, Hz⟩
  simp only [payF]
  rw [run_bind]
  iapply (run_wand c _ (cp_wait m K c k (hO1.mono (by decide)))) $$ [HO HT]
  · isplitr; · iexact HR
    isplitl [HO] <;> iassumption
  iintro ⟨HO, HT⟩
  unfold cpS
  icases HT with ⟨Ha, HT⟩
  iapply (sum_step m c k) $$ [Ha Hz Hr]
  · isplitl [Ha]; · iexact Ha
    isplitl [Hz] <;> iassumption
  iintro ⟨Ha, Hz, Hr⟩
  ihave Hr' := (split_sum c k (rdB m c)) $$ Hr
  icases Hr' with ⟨Hr1, Hr2, Hr3, Hr4⟩
  rw [run_bind]
  unfold owed1
  rw [← add_assoc]
  iapply (xSend_step m K c k (O := O + due (yn c) (st .yr k))) $$ [HO Hr2 Hox Hxs Hxr]
  · isplitr; · iexact HR
    isplitl [Hr2]; · iexact Hr2
    isplitl [Hox]; · iexact Hox
    isplitl [HO]; · iexact HO
    isplitl [Hxs] <;> iassumption
  iintro ⟨Hcx, HO⟩
  rw [run_bind]
  iapply (ySend_step m K c k (O := O)) $$ [HO Hr3 Hoy Hys Hyr]
  · isplitr; · iexact HR
    isplitl [Hr3]; · iexact Hr3
    isplitl [Hoy]; · iexact Hoy
    isplitl [HO]; · iexact HO
    isplitl [Hys] <;> iassumption
  iintro ⟨Hcy, HO⟩
  iapply (coCopy_step m K c k) $$ [Hr1 Ho Hco]
  · isplitr; · iexact HR
    isplitl [Hr1]; · iexact Hr1
    isplitl [Ho] <;> iassumption
  iintro Hcc
  isplitl [HO]; · iexact HO
  isplitl [Ha HT]
  · isplitl [Ha]; · iexact Ha
    iexact HT
  isplitl [Hcx Hcy]
  · isplitl [Hcx] <;> iassumption
  isplitl [Hcc]; · iexact Hcc
  isplitl [Hn]; · iexact Hn
  isplitl [Hz] <;> iassumption

end Cert.KernelIdeal.AllReduce

end
-- ==== Proof.Relays.lean ====
/- The third loop: a chunk of each neighbour's block arrives, is forwarded along z and relayed. -/
module

public import proofs.«01_k».proof.Proof.Sums
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD) (k : Fin 16)

/-- What the relay of chunk `k` takes besides what has arrived. -/
def R2 : sProp 𝕄 :=
  if k.val % 2 = 0 then
    iprop(crd (F := F) c (st .fyr k) ∗ pos (F := F) c (st .fyr k) ∗ tok (F := F) c (st .rxs k) ∗ tok (F := F) (xn c) (st .rxr k)
      ∗ oAny (F := F) (xn c) (row (rb (yn c)) k))
  else
    iprop(crd (F := F) c (st .fxr k) ∗ pos (F := F) c (st .fxr k) ∗ tok (F := F) c (st .rys k) ∗ tok (F := F) (yn c) (st .ryr k)
      ∗ oAny (F := F) (yn c) (row (rb (xn c)) k))

/-- What chunk `k` of the third loop takes. -/
def A2 : sProp 𝕄 :=
  iprop(crd (F := F) c (st .xr k) ∗ pos (F := F) c (st .xr k) ∗ crd (F := F) c (st .yr k) ∗ pos (F := F) c (st .yr k)
    ∗ tok (F := F) c (st .fxs k) ∗ tok (F := F) (zn c) (st .fxr k) ∗ oAny (F := F) (zn c) (cols (rb (xn c)) k (foC c) 128)
    ∗ tok (F := F) c (st .fys k) ∗ tok (F := F) (zn c) (st .fyr k) ∗ oAny (F := F) (zn c) (cols (rb (yn c)) k (foC c) 128)
    ∗ R2 (F := F) c k)

/-- The columns of the block not relayed here, and the right to wait until the relay has left. -/
def kept : sProp 𝕄 :=
  if k.val % 2 = 0 then oP c (cols (rb (xn c)) k (dirC c) 896) sR (fin m c) else oP c (cols (rb (yn c)) k (dirC c) 896) sR (fin m c)
def relayed : sProp 𝕄 := if k.val % 2 = 0 then crd (F := F) c (st .rxs k) else crd (F := F) c (st .rys k)
/-- Half of the columns that arrived forwarded. -/
def early : sProp 𝕄 :=
  if k.val % 2 = 0 then iprop(nil (F := F) c (st .fyr k) ∗ oP c (cols (rb (yn c)) k (fiC c) 128) sL (fin m c))
  else iprop(nil (F := F) c (st .fxr k) ∗ oP c (cols (rb (xn c)) k (fiC c) 128) sL (fin m c))

/-- What chunk `k` of the third loop leaves. -/
def B2 : sProp 𝕄 :=
  iprop(kept m c k ∗ relayed (F := F) c k ∗ (crd (F := F) c (st .fxs k) ∗ crd (F := F) c (st .fys k))
    ∗ nil (F := F) c (st .xr k) ∗ nil (F := F) c (st .yr k)
    ∗ oP c (mid c (rb (xn c)) k) sL (fin m c) ∗ oP c (mid c (rb (yn c)) k) sL (fin m c) ∗ early m c k)

/-- The relay of an odd chunk of the x neighbour's block. -/
theorem relayX_odd (h : k.val % 2 = 1) {O : CellTallies nD τ sig Unit} (hO : Above (4 + 2 * k.val) (O + due (yn c) (st .ryr k))) :
    iprop(records m K ∗ owesE (F := F) c (O + due (yn c) (st .ryr k)) ∗ R2 (F := F) c k ∗ oP c (cols (rb (xn c)) k (dirC c) 896) sR (fin m c))
      ⊢ run c (relayX c k) (fun _ => iprop(owesE (F := F) c O ∗ relayed (F := F) c k ∗ early m c k)) := by
  have h' : ¬k.val % 2 = 0 := by omega
  unfold relayX R2 relayed early
  rw [if_pos h, if_neg h', if_neg h', if_neg h', run_bind]
  iintro ⟨#HR, HO, ⟨Hc, Hp, Hts, Htr, Ho⟩, Hd⟩
  iapply (await_step m K c k .fxr trivial (sem := semAt cc0_scratch14 k) (src := fxIn c k) (dst := fxIn c k) (hs := View.wordExact_bits rfl) (hd := View.wordExact_bits rfl) rfl rfl hO) $$ [HO Hc Hp]
  · isplitr; · iexact HR
    isplitl [Hc]; · iexact Hc
    isplitl [HO] <;> iassumption
  iintro ⟨HO, Hn, Hf⟩
  simp only [payF]
  ihave Hf' := (split_fi c (rb (xn c)) k (fin m c)) $$ Hf
  icases Hf' with ⟨Hl, Hr⟩
  ihave Hw := (join_row c (rb (xn c)) k (fin m c) sR) $$ [Hd Hr]
  · isplitl [Hd] <;> iassumption
  iapply (rySend_step m K c k h (O := O)) $$ [HO Hw Ho Hts Htr]
  · isplitr; · iexact HR
    isplitl [Hw]; · iexact Hw
    isplitl [Ho]; · iexact Ho
    isplitl [HO]; · iexact HO
    isplitl [Hts] <;> iassumption
  iintro ⟨Hc, HO⟩
  isplitl [HO]; · iexact HO
  isplitl [Hc]; · iexact Hc
  isplitl [Hn] <;> iassumption

/-- The relay of an even chunk of the y neighbour's block. -/
theorem relayY_even (h : k.val % 2 = 0) {O : CellTallies nD τ sig Unit} (hO : Above (5 + 2 * k.val) (O + due (xn c) (st .rxr k))) :
    iprop(records m K ∗ owesE (F := F) c (O + due (xn c) (st .rxr k)) ∗ R2 (F := F) c k ∗ oP c (cols (rb (yn c)) k (dirC c) 896) sR (fin m c))
      ⊢ run c (relayY c k) (fun _ => iprop(owesE (F := F) c O ∗ relayed (F := F) c k ∗ early m c k)) := by
  unfold relayY R2 relayed early
  rw [if_pos h, if_pos h, if_pos h, if_pos h, run_bind]
  iintro ⟨#HR, HO, ⟨Hc, Hp, Hts, Htr, Ho⟩, Hd⟩
  iapply (await_step m K c k .fyr trivial (sem := semAt cc0_scratch16 k) (src := fyIn c k) (dst := fyIn c k) (hs := View.wordExact_bits rfl) (hd := View.wordExact_bits rfl) rfl rfl hO) $$ [HO Hc Hp]
  · isplitr; · iexact HR
    isplitl [Hc]; · iexact Hc
    isplitl [HO] <;> iassumption
  iintro ⟨HO, Hn, Hf⟩
  simp only [payF]
  ihave Hf' := (split_fi c (rb (yn c)) k (fin m c)) $$ Hf
  icases Hf' with ⟨Hl, Hr⟩
  ihave Hw := (join_row c (rb (yn c)) k (fin m c) sR) $$ [Hd Hr]
  · isplitl [Hd] <;> iassumption
  iapply (rxSend_step m K c k h (O := O)) $$ [HO Hw Ho Hts Htr]
  · isplitr; · iexact HR
    isplitl [Hw]; · iexact Hw
    isplitl [Ho]; · iexact Ho
    isplitl [HO]; · iexact HO
    isplitl [Hts] <;> iassumption
  iintro ⟨Hc, HO⟩
  isplitl [HO]; · iexact HO
  isplitl [Hc]; · iexact Hc
  isplitl [Hn] <;> iassumption

/-- Both relays, of which one is not taken, from what is owed to what is left of it. -/
theorem relayX_even (h : k.val % 2 = 0) (Q : PUnit.{1} → sProp 𝕄) : Q ⟨⟩ ⊢ run c (relayX (F := F) c k) Q := by
  unfold relayX; rw [if_neg (by omega)]; exact run_skip c Q
theorem relayY_odd (h : k.val % 2 = 1) (Q : PUnit.{1} → sProp 𝕄) : Q ⟨⟩ ⊢ run c (relayY (F := F) c k) Q := by
  unfold relayY; rw [if_neg (by omega)]; exact run_skip c Q

/-- The arrival along x and the forwarding of it. -/
theorem arriveX {O : CellTallies nD τ sig Unit} (hO : Above 3 (O + due (zn c) (st .fxr k))) {Q : PUnit.{1} → sProp 𝕄} {kk : PUnit.{1} → TcProg F PUnit} :
    iprop(records m K ∗ owesE (F := F) c (O + due (zn c) (st .fxr k)) ∗ crd (F := F) c (st .xr k) ∗ pos (F := F) c (st .xr k)
        ∗ tok (F := F) c (st .fxs k) ∗ tok (F := F) (zn c) (st .fxr k) ∗ oAny (F := F) (zn c) (cols (rb (xn c)) k (foC c) 128))
      ⊢ iprop(((owesE (F := F) c O ∗ nil (F := F) c (st .xr k) ∗ crd (F := F) c (st .fxs k) ∗ oP c (mid c (rb (xn c)) k) sL (fin m c)
          ∗ oP c (cols (rb (xn c)) k (dirC c) 896) sR (fin m c)) -∗ run c (kk ⟨⟩) Q)
        -∗ run c (await (semAt cc0_scratch6 k) (xIn c k) (xIn c k) (View.wordExact_bits rfl) (View.wordExact_bits rfl) >>= fun _ =>
          fxSend c k >>= kk) Q) := by
  iintro ⟨#HR, HO, Hc, Hp, Hts, Htr, Ho⟩ Hk
  rw [run_bind]
  iapply (await_step m K c k .xr trivial (sem := semAt cc0_scratch6 k) (src := xIn c k) (dst := xIn c k) (hs := View.wordExact_bits rfl) (hd := View.wordExact_bits rfl) rfl rfl hO) $$ [HO Hc Hp]
  · isplitr; · iexact HR
    isplitl [Hc]; · iexact Hc
    isplitl [HO] <;> iassumption
  iintro ⟨HO, Hn, Hf⟩
  simp only [payF]
  ihave Hf' := (split_dir c (rb (xn c)) k (fin m c)) $$ Hf
  icases Hf' with ⟨H1, H2, H3⟩
  rw [run_bind]
  iapply (fxSend_step m K c k (O := O)) $$ [HO H1 Ho Hts Htr]
  · isplitr; · iexact HR
    isplitl [H1]; · iexact H1
    isplitl [Ho]; · iexact Ho
    isplitl [HO]; · iexact HO
    isplitl [Hts] <;> iassumption
  iintro ⟨Hc, HO⟩
  iapply Hk
  isplitl [HO]; · iexact HO
  isplitl [Hn]; · iexact Hn
  isplitl [Hc]; · iexact Hc
  isplitl [H2] <;> iassumption

/-- The arrival along y and the forwarding of it. -/
theorem arriveY {O : CellTallies nD τ sig Unit} (hO : Above 3 (O + due (zn c) (st .fyr k))) {Q : PUnit.{1} → sProp 𝕄} {kk : PUnit.{1} → TcProg F PUnit} :
    iprop(records m K ∗ owesE (F := F) c (O + due (zn c) (st .fyr k)) ∗ crd (F := F) c (st .yr k) ∗ pos (F := F) c (st .yr k)
        ∗ tok (F := F) c (st .fys k) ∗ tok (F := F) (zn c) (st .fyr k) ∗ oAny (F := F) (zn c) (cols (rb (yn c)) k (foC c) 128))
      ⊢ iprop(((owesE (F := F) c O ∗ nil (F := F) c (st .yr k) ∗ crd (F := F) c (st .fys k) ∗ oP c (mid c (rb (yn c)) k) sL (fin m c)
          ∗ oP c (cols (rb (yn c)) k (dirC c) 896) sR (fin m c)) -∗ run c (kk ⟨⟩) Q)
        -∗ run c (await (semAt cc0_scratch8 k) (yIn c k) (yIn c k) (View.wordExact_bits rfl) (View.wordExact_bits rfl) >>= fun _ =>
          fySend c k >>= kk) Q) := by
  iintro ⟨#HR, HO, Hc, Hp, Hts, Htr, Ho⟩ Hk
  rw [run_bind]
  iapply (await_step m K c k .yr trivial (sem := semAt cc0_scratch8 k) (src := yIn c k) (dst := yIn c k) (hs := View.wordExact_bits rfl) (hd := View.wordExact_bits rfl) rfl rfl hO) $$ [HO Hc Hp]
  · isplitr; · iexact HR
    isplitl [Hc]; · iexact Hc
    isplitl [HO] <;> iassumption
  iintro ⟨HO, Hn, Hf⟩
  simp only [payF]
  ihave Hf' := (split_dir c (rb (yn c)) k (fin m c)) $$ Hf
  icases Hf' with ⟨H1, H2, H3⟩
  rw [run_bind]
  iapply (fySend_step m K c k (O := O)) $$ [HO H1 Ho Hts Htr]
  · isplitr; · iexact HR
    isplitl [H1]; · iexact H1
    isplitl [Ho]; · iexact Ho
    isplitl [HO]; · iexact HO
    isplitl [Hts] <;> iassumption
  iintro ⟨Hc, HO⟩
  iapply Hk
  isplitl [HO]; · iexact HO
  isplitl [Hn]; · iexact Hn
  isplitl [Hc]; · iexact Hc
  isplitl [H2] <;> iassumption

/-- Chunk `k` of the third loop. -/
theorem chunk2 {O : CellTallies nD τ sig Unit} (hO : Above (5 + 2 * k.val) O) :
    iprop(records m K ∗ owesE (F := F) c (O + owed2 c k) ∗ emp ∗ A2 (F := F) c k)
      ⊢ run c (step2 c k) (fun _ => iprop(owesE (F := F) c O ∗ emp ∗ B2 m c k)) := by
  have hO0 : Above (4 + 2 * k.val) O := hO.mono (by omega)
  have hk := k.isLt
  have hR : Above (5 + 2 * k.val) (owedR c k) := above_owedR (by omega) c k
  have hfy : Above (4 + 2 * k.val) (due (zn c) (st .fyr k)) := Above.due (show 4 + 2 * k.val < 5 + 2 * k.val by omega)
  have hfy3 : Above 3 (due (zn c) (st .fyr k)) := hfy.mono (by omega)
  have hfx3 : Above 3 (due (zn c) (st .fxr k)) := Above.due (show 3 < 4 + 2 * k.val by omega)
  have hO3 : Above 3 O := hO.mono (by omega)
  have hR3 : Above 3 (owedR c k) := hR.mono (by omega)
  unfold step2 A2 B2 owed2
  iintro ⟨#HR, HO, -, Hcx, Hpx, Hcy, Hpy, Htxs, Htxr, Hox, Htys, Htyr, Hoy, H2⟩
  rw [show O + (owedR c k + due (zn c) (st .fyr k) + due (zn c) (st .fxr k)) = O + owedR c k + due (zn c) (st .fyr k) + due (zn c) (st .fxr k) by
    simp only [add_assoc]]
  iapply (arriveX m K c k (((hO3.add hR3).add hfy3).add hfx3)) $$ [HO Hcx Hpx Htxs Htxr Hox]
  · isplitr; · iexact HR
    isplitl [HO]; · iexact HO
    isplitl [Hcx]; · iexact Hcx
    isplitl [Hpx]; · iexact Hpx
    isplitl [Htxs]; · iexact Htxs
    isplitl [Htxr] <;> iassumption
  iintro ⟨HO, Hnx, Hfx, Hmx, Hdx⟩
  rw [run_bind]
  by_cases h : k.val % 2 = 0
  · iapply (relayX_even c k h)
    iapply (arriveY m K c k ((hO3.add hR3).add hfy3)) $$ [HO Hcy Hpy Htys Htyr Hoy]
    · isplitr; · iexact HR
      isplitl [HO]; · iexact HO
      isplitl [Hcy]; · iexact Hcy
      isplitl [Hpy]; · iexact Hpy
      isplitl [Htys]; · iexact Htys
      isplitl [Htyr] <;> iassumption
    iintro ⟨HO, Hny, Hfy, Hmy, Hdy⟩
    rw [show owedR c k = due (xn c) (st .rxr k) from if_pos h] at hR ⊢
    iapply (run_wand c _ (relayY_even m K c k h (hO.add hR))) $$ [HO H2 Hdy]
    · isplitr; · iexact HR
      isplitl [HO]; · iexact HO
      isplitl [H2] <;> iassumption
    iintro ⟨HO, Hrel, Hea⟩
    isplitl [HO]; · iexact HO
    isplitr; · iempintro
    isplitl [Hdx]
    · unfold kept; rw [if_pos h]; iexact Hdx
    isplitl [Hrel]; · iexact Hrel
    isplitl [Hfx Hfy]; · isplitl [Hfx] <;> iassumption
    isplitl [Hnx]; · iexact Hnx
    isplitl [Hny]; · iexact Hny
    isplitl [Hmx]; · iexact Hmx
    isplitl [Hmy] <;> iassumption
  · have h1 : k.val % 2 = 1 := by omega
    rw [show O + owedR c k + due (zn c) (st .fyr k) = O + due (zn c) (st .fyr k) + due (yn c) (st .ryr k) by
      rw [show owedR c k = due (yn c) (st .ryr k) from if_neg h]; exact add_right_comm _ _ _]
    rw [show owedR c k = due (yn c) (st .ryr k) from if_neg h] at hR
    iapply (run_wand c _ (relayX_odd m K c k h1 ((hO0.add hfy).add (hR.mono (by omega))))) $$ [HO H2 Hdx]
    · isplitr; · iexact HR
      isplitl [HO]; · iexact HO
      isplitl [H2] <;> iassumption
    iintro ⟨HO, Hrel, Hea⟩
    iapply (arriveY m K c k (hO3.add hfy3)) $$ [HO Hcy Hpy Htys Htyr Hoy]
    · isplitr; · iexact HR
      isplitl [HO]; · iexact HO
      isplitl [Hcy]; · iexact Hcy
      isplitl [Hpy]; · iexact Hpy
      isplitl [Htys]; · iexact Htys
      isplitl [Htyr] <;> iassumption
    iintro ⟨HO, Hny, Hfy, Hmy, Hdy⟩
    iapply (relayY_odd c k h1)
    isplitl [HO]; · iexact HO
    isplitr; · iempintro
    isplitl [Hdy]
    · unfold kept; rw [if_neg h]; iexact Hdy
    isplitl [Hrel]; · iexact Hrel
    isplitl [Hfx Hfy]; · isplitl [Hfx] <;> iassumption
    isplitl [Hnx]; · iexact Hnx
    isplitl [Hny]; · iexact Hny
    isplitl [Hmx]; · iexact Hmx
    isplitl [Hmy] <;> iassumption

end Cert.KernelIdeal.AllReduce

end
-- ==== Proof.Departures.lean ====
/- The remaining loops: the last arrivals, and the waits until everything sent has left. -/
module

public import proofs.«01_k».proof.Proof.Relays
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD) (k : Fin 16)

/-- What chunk `k` of the fourth loop takes besides the columns kept, and what it leaves. -/
def D3 : sProp 𝕄 :=
  if k.val % 2 = 0 then iprop(crd (F := F) c (st .fxr k) ∗ pos (F := F) c (st .fxr k) ∗ crd (F := F) c (st .rxr k) ∗ pos (F := F) c (st .rxr k))
  else iprop(crd (F := F) c (st .fyr k) ∗ pos (F := F) c (st .fyr k) ∗ crd (F := F) c (st .ryr k) ∗ pos (F := F) c (st .ryr k))
def B3 : sProp 𝕄 :=
  if k.val % 2 = 0 then
    iprop(nil (F := F) c (st .fxr k) ∗ nil (F := F) c (st .rxr k) ∗ oP c (cols (rb (xn c)) k (fiC c) 128) sL (fin m c)
      ∗ oP c (row (rb (xn c)) k) sR (fin m c) ∗ oP c (row (rb (xyn c)) k) fullShare (fin m c))
  else
    iprop(nil (F := F) c (st .fyr k) ∗ nil (F := F) c (st .ryr k) ∗ oP c (cols (rb (yn c)) k (fiC c) 128) sL (fin m c)
      ∗ oP c (row (rb (yn c)) k) sR (fin m c) ∗ oP c (row (rb (xyn c)) k) fullShare (fin m c))

theorem chunk3 : iprop(records m K ∗ owesE (F := F) c 0 ∗ D3 (F := F) c k ∗ kept m c k)
    ⊢ run c (step3 c k) (fun _ => iprop(owesE (F := F) c 0 ∗ B3 m c k)) := by
  unfold step3 D3 kept B3
  by_cases h : k.val % 2 = 0
  · rw [if_pos h, if_pos h, if_pos h, if_pos h, run_bind]
    iintro ⟨#HR, HO, ⟨Hc, Hp, Hc', Hp'⟩, Hd⟩
    iapply (await_step m K c k .fxr trivial (sem := semAt cc0_scratch14 k) (src := fxIn c k) (dst := fxIn c k) (hs := View.wordExact_bits rfl) (hd := View.wordExact_bits rfl) rfl rfl (Above.zero _)) $$ [HO Hc Hp]
    · isplitr; · iexact HR
      isplitl [Hc]; · iexact Hc
      isplitl [HO] <;> iassumption
    iintro ⟨HO, Hn, Hf⟩
    iapply (await_step m K c k .rxr (show k.val % 2 = 0 from h) (sem := semAt cc0_scratch10 k) (src := dIn c k) (dst := dIn c k) (hs := View.wordExact_bits rfl) (hd := View.wordExact_bits rfl) rfl rfl (Above.zero _)) $$ [HO Hc' Hp']
    · isplitr; · iexact HR
      isplitl [Hc']; · iexact Hc'
      isplitl [HO] <;> iassumption
    iintro ⟨HO, Hn', Hf'⟩
    simp only [payF]
    ihave Hfs := (split_fi c (rb (xn c)) k (fin m c)) $$ Hf
    icases Hfs with ⟨Hl, Hr⟩
    ihave Hw := (join_row c (rb (xn c)) k (fin m c) sR) $$ [Hd Hr]
    · isplitl [Hd] <;> iassumption
    isplitl [HO]; · iexact HO
    isplitl [Hn]; · iexact Hn
    isplitl [Hn']; · iexact Hn'
    isplitl [Hl]; · iexact Hl
    isplitl [Hw] <;> iassumption
  · have h1 : k.val % 2 = 1 := by omega
    rw [if_neg h, if_neg h, if_neg h, if_neg h, run_bind]
    iintro ⟨#HR, HO, ⟨Hc, Hp, Hc', Hp'⟩, Hd⟩
    iapply (await_step m K c k .fyr trivial (sem := semAt cc0_scratch16 k) (src := fyIn c k) (dst := fyIn c k) (hs := View.wordExact_bits rfl) (hd := View.wordExact_bits rfl) rfl rfl (Above.zero _)) $$ [HO Hc Hp]
    · isplitr; · iexact HR
      isplitl [Hc]; · iexact Hc
      isplitl [HO] <;> iassumption
    iintro ⟨HO, Hn, Hf⟩
    iapply (await_step m K c k .ryr (show k.val % 2 = 1 from h1) (sem := semAt cc0_scratch12 k) (src := dIn c k) (dst := dIn c k) (hs := View.wordExact_bits rfl) (hd := View.wordExact_bits rfl) rfl rfl (Above.zero _)) $$ [HO Hc' Hp']
    · isplitr; · iexact HR
      isplitl [Hc']; · iexact Hc'
      isplitl [HO] <;> iassumption
    iintro ⟨HO, Hn', Hf'⟩
    simp only [payF]
    ihave Hfs := (split_fi c (rb (yn c)) k (fin m c)) $$ Hf
    icases Hfs with ⟨Hl, Hr⟩
    ihave Hw := (join_row c (rb (yn c)) k (fin m c) sR) $$ [Hd Hr]
    · isplitl [Hd] <;> iassumption
    isplitl [HO]; · iexact HO
    isplitl [Hn]; · iexact Hn
    isplitl [Hn']; · iexact Hn'
    isplitl [Hl]; · iexact Hl
    isplitl [Hw] <;> iassumption

/-- The wait until one transfer has left, at a loop's chunk. -/
theorem left_one (f : Fam) (hu : used f k) {sp sp' : Space} {s s' : Shape} {sem : DmaSem sig} {src : Memref sig .tc sp s .f32}
    {dst : Memref sig .tc sp' s' .f32} {hs : src.view.WordExact} {hd : dst.view.WordExact}
    (hsem : sem = ownDma (.inr (f, k))) (hN : dst.view.dmaCredit = amt (st f k)) :
    iprop(records m K ∗ owesE (F := F) c 0 ∗ pos (F := F) c (st f k) ∗ crd (F := F) c (st f k))
      ⊢ run c (await sem src dst hs hd) (fun _ => iprop(owesE (F := F) c 0 ∗ nil (F := F) c (st f k) ∗ payF m c k f)) := by
  iintro ⟨#HR, HO, Hp, Hc⟩
  iapply (await_step m K c k f hu (sem := sem) (src := src) (dst := dst) (hs := hs) (hd := hd) hsem hN (Above.zero _)) $$ [HO Hp Hc]
  · isplitr; · iexact HR
    isplitl [Hc]; · iexact Hc
    isplitl [HO] <;> iassumption
  iintro H
  iexact H

/-- The same for two transfers one after the other. -/
theorem left_two (f g : Fam) (hu : used f k) (hu' : used g k) {p q : TcProg F PUnit}
    (hp : iprop(records m K ∗ owesE (F := F) c 0 ∗ pos (F := F) c (st f k) ∗ crd (F := F) c (st f k))
      ⊢ run c p (fun _ => iprop(owesE (F := F) c 0 ∗ nil (F := F) c (st f k) ∗ payF m c k f)))
    (hq : iprop(records m K ∗ owesE (F := F) c 0 ∗ pos (F := F) c (st g k) ∗ crd (F := F) c (st g k))
      ⊢ run c q (fun _ => iprop(owesE (F := F) c 0 ∗ nil (F := F) c (st g k) ∗ payF m c k g))) :
    iprop(records m K ∗ owesE (F := F) c 0 ∗ (pos (F := F) c (st f k) ∗ pos (F := F) c (st g k)) ∗ (crd (F := F) c (st f k) ∗ crd (F := F) c (st g k)))
      ⊢ run c (p >>= fun _ => q) (fun _ => iprop(owesE (F := F) c 0 ∗ (nil (F := F) c (st f k) ∗ nil (F := F) c (st g k)) ∗ payF m c k f ∗ payF m c k g)) := by
  rw [run_bind]
  iintro ⟨#HR, HO, ⟨Hp, Hp'⟩, Hc, Hc'⟩
  iapply (run_wand c _ hp) $$ [HO Hp Hc]
  · isplitr; · iexact HR
    isplitl [HO]; · iexact HO
    isplitl [Hp] <;> iassumption
  iintro ⟨HO, Hn, Hf⟩
  iapply (run_wand c _ hq) $$ [HO Hp' Hc']
  · isplitr; · iexact HR
    isplitl [HO]; · iexact HO
    isplitl [Hp'] <;> iassumption
  iintro ⟨HO, Hn', Hf'⟩
  isplitl [HO]; · iexact HO
  isplitl [Hn Hn']; · isplitl [Hn] <;> iassumption
  isplitl [Hf] <;> iassumption

/-- Which transfer of the relay is waited on, and what it lent. -/
def D6 : sProp 𝕄 := if k.val % 2 = 0 then pos (F := F) c (st .rxs k) else pos (F := F) c (st .rys k)
def B6 : sProp 𝕄 :=
  if k.val % 2 = 0 then iprop(nil (F := F) c (st .rxs k) ∗ oP c (row (rb (yn c)) k) sR (fin m c))
  else iprop(nil (F := F) c (st .rys k) ∗ oP c (row (rb (xn c)) k) sR (fin m c))

theorem chunk4 : iprop(records m K ∗ owesE (F := F) c 0 ∗ pos (F := F) c (st .zs k) ∗ crd (F := F) c (st .zs k))
    ⊢ run c (wait4 c k) (fun _ => iprop(owesE (F := F) c 0 ∗ nil (F := F) c (st .zs k) ∗ payF m c k .zs)) :=
  left_one m K c k .zs trivial (sem := semAt cc0_scratch3 k) (src := zrChunk k) (dst := xChunk c k) rfl rfl

theorem chunk5 : iprop(records m K ∗ owesE (F := F) c 0 ∗ (pos (F := F) c (st .xs k) ∗ pos (F := F) c (st .ys k)) ∗ (crd (F := F) c (st .xs k) ∗ crd (F := F) c (st .ys k)))
    ⊢ run c (wait5 c k) (fun _ => iprop(owesE (F := F) c 0 ∗ (nil (F := F) c (st .xs k) ∗ nil (F := F) c (st .ys k)) ∗ payF m c k .xs ∗ payF m c k .ys)) :=
  left_two m K c k .xs .ys trivial trivial
    (left_one m K c k .xs trivial (sem := semAt cc0_scratch5 k) (src := outDir c k) (dst := rdDir c k) (hs := View.wordExact_bits rfl) (hd := View.wordExact_bits rfl) rfl rfl)
    (left_one m K c k .ys trivial (sem := semAt cc0_scratch7 k) (src := outDir c k) (dst := rdDir c k) (hs := View.wordExact_bits rfl) (hd := View.wordExact_bits rfl) rfl rfl)

theorem chunk6 : iprop(records m K ∗ owesE (F := F) c 0 ∗ D6 (F := F) c k ∗ relayed (F := F) c k)
    ⊢ run c (wait6 c k) (fun _ => iprop(owesE (F := F) c 0 ∗ B6 m c k)) := by
  unfold wait6 D6 relayed B6
  by_cases h : k.val % 2 = 0
  · rw [if_pos h, if_pos h, if_pos h, if_pos h]
    exact left_one m K c k .rxs h (sem := semAt cc0_scratch9 k) (src := ryFull c k) (dst := ryFull c k) rfl rfl
  · rw [if_neg h, if_neg h, if_neg h, if_neg h]
    exact left_one m K c k .rys (show k.val % 2 = 1 by omega) (sem := semAt cc0_scratch11 k) (src := rxFull c k) (dst := rxFull c k) rfl rfl

theorem chunk7 : iprop(records m K ∗ owesE (F := F) c 0 ∗ (pos (F := F) c (st .fxs k) ∗ pos (F := F) c (st .fys k)) ∗ (crd (F := F) c (st .fxs k) ∗ crd (F := F) c (st .fys k)))
    ⊢ run c (wait7 c k) (fun _ => iprop(owesE (F := F) c 0 ∗ (nil (F := F) c (st .fxs k) ∗ nil (F := F) c (st .fys k)) ∗ payF m c k .fxs ∗ payF m c k .fys)) :=
  left_two m K c k .fxs .fys trivial trivial
    (left_one m K c k .fxs trivial (sem := semAt cc0_scratch13 k) (src := fxOut c k) (dst := fxOut c k) (hs := View.wordExact_bits rfl) (hd := View.wordExact_bits rfl) rfl rfl)
    (left_one m K c k .fys trivial (sem := semAt cc0_scratch15 k) (src := fyOut c k) (dst := fyOut c k) (hs := View.wordExact_bits rfl) (hd := View.wordExact_bits rfl) rfl rfl)

theorem chunk8 : iprop(records m K ∗ owesE (F := F) c 0 ∗ pos (F := F) c (st .co k) ∗ crd (F := F) c (st .co k))
    ⊢ run c (wait8 c k) (fun _ => iprop(owesE (F := F) c 0 ∗ nil (F := F) c (st .co k) ∗ payF m c k .co)) :=
  left_one m K c k .co trivial (sem := semAt cc0_scratch18 k) (src := rdChunk k) (dst := outOwn c k) rfl rfl

end Cert.KernelIdeal.AllReduce

end
-- ==== Proof.Chunks.lean ====
/- What each chunk has at the start and leaves at the end, and how it is dealt to the loops. -/
module

public import proofs.«01_k».proof.Proof.Departures
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD) (k : Fin 16)

/-- The device whose semaphore of an array is paid. -/
def tgt : Fam → Dev nD → Dev nD
  | .zr | .fxr | .fyr => zn
  | .xr | .rxr => xn
  | .yr | .ryr => yn
  | _ => id

theorem bigSep_fam (Φ : Fam → sProp 𝕄) : bigSep Finset.univ Φ = iprop(Φ .zs ∗ Φ .zr ∗ Φ .xs ∗ Φ .xr ∗ Φ .ys ∗ Φ .yr ∗ Φ .rxs ∗ Φ .rxr ∗ Φ .rys ∗ Φ .ryr ∗ Φ .fxs ∗ Φ .fxr ∗ Φ .fys ∗ Φ .fyr ∗ Φ .co) := by
  rw [bigSep_univ_eq_bigSepL ([.zs, .zr, .xs, .xr, .ys, .yr, .rxs, .rxr, .rys, .ryr, .fxs, .fxr, .fys, .fyr, .co] : List Fam) (by decide) (by decide)]; rfl

/-- What device `c` may expect at chunk `k`. -/
def credK : sProp 𝕄 :=
  iprop(crd (F := F) c (st .zr k) ∗ crd (F := F) c (st .xr k) ∗ crd (F := F) c (st .yr k) ∗ crd (F := F) c (st .fxr k) ∗ crd (F := F) c (st .fyr k)
    ∗ if k.val % 2 = 0 then crd (F := F) c (st .rxr k) else crd (F := F) c (st .ryr k))
/-- The rights of device `c` at chunk `k`: its places, its payments, and what it may expect. -/
def ghostK : sProp 𝕄 :=
  iprop((bigSep Finset.univ fun f : Fam => pos (F := F) c (st f k)) ∗ (bigSep Finset.univ fun f : Fam => tok (F := F) (tgt f c) (st f k)) ∗ credK (F := F) c k)
/-- What device `c` keeps of its buffers at chunk `k`. -/
def memK : sProp 𝕄 :=
  iprop(xP c (row (rb c) k) sL (inp m c) ∗ rAny (F := F) c (ck k) ∗ oAny (F := F) c (row (rb c) k))
/-- What the neighbours let it write. -/
def giftK : sProp 𝕄 := iprop(giveK (F := F) (zn c) k 0 ∗ giveK (F := F) (xn c) k 1 ∗ giveK (F := F) (yn c) k 2)

/-- The places before the waits at the end. -/
def ends : sProp 𝕄 :=
  iprop(D3 (F := F) c k ∗ pos (F := F) c (st .zs k) ∗ (pos (F := F) c (st .xs k) ∗ pos (F := F) c (st .ys k)) ∗ D6 (F := F) c k
    ∗ (pos (F := F) c (st .fxs k) ∗ pos (F := F) c (st .fys k)) ∗ pos (F := F) c (st .co k))
def idle : sProp 𝕄 :=
  if k.val % 2 = 0 then iprop(pos (F := F) c (st .rys k) ∗ pos (F := F) c (st .ryr k)) else iprop(pos (F := F) c (st .rxs k) ∗ pos (F := F) c (st .rxr k))
def idle' : sProp 𝕄 :=
  if k.val % 2 = 0 then iprop(nil (F := F) c (st .rys k) ∗ nil (F := F) c (st .ryr k)) else iprop(nil (F := F) c (st .rxs k) ∗ nil (F := F) c (st .rxr k))

/-- Everything at chunk `k`, dealt to the loops. -/
theorem deal : iprop(giftK (F := F) c k ∗ memK m c k ∗ ghostK (F := F) c k)
    ⊢ iprop(AZ m c k ∗ A1 (F := F) c k ∗ A2 (F := F) c k ∗ ends (F := F) c k ∗ idle (F := F) c k) := by
  unfold giftK memK ghostK credK giveK AZ A1 A2 ends R2 D3 D6 idle
  rw [bigSep_fam, bigSep_fam, rb_xn_zn, rb_yn_zn, fiC_zn, xn_xn, yn_yn, dirC_xn, dirC_yn, xyn_xn, xyn_yn]
  by_cases h : k.val % 2 = 0
  · simp only [if_pos h, tgt, id_eq]
    iintro ⟨⟨⟨gz, gx, gy⟩, ⟨g1, g2⟩, g3, -⟩, ⟨mx, mr, mo⟩, ⟨pzs, pzr, pxs, pxr, pys, pyr, prxs, prxr, prys, pryr, pfxs, pfxr, pfys, pfyr, pco⟩, ⟨tzs, tzr, txs, txr, tys, tyr, trxs, trxr, trys, tryr, tfxs, tfxr, tfys, tfyr, tco⟩, czr, cxr, cyr, cfx, cfy, cr⟩
    isplitl [mx gz tzs tzr]
    · isplitl [mx]; · iexact mx
      isplitl [gz]; · iexact gz
      isplitl [tzs]; · iexact tzs
      iexact tzr
    isplitl [czr pzr mr txs txr g1 tys tyr g3 tco mo]
    · isplitl [czr]; · iexact czr
      isplitl [pzr]; · iexact pzr
      isplitl [mr]; · iexact mr
      isplitl [txs]; · iexact txs
      isplitl [txr]; · iexact txr
      isplitl [g1]; · iexact g1
      isplitl [tys]; · iexact tys
      isplitl [tyr]; · iexact tyr
      isplitl [g3]; · iexact g3
      isplitl [tco]; · iexact tco
      iexact mo
    isplitl [cxr pxr cyr pyr tfxs tfxr gx tfys tfyr gy cfy pfyr trxs trxr g2]
    · isplitl [cxr]; · iexact cxr
      isplitl [pxr]; · iexact pxr
      isplitl [cyr]; · iexact cyr
      isplitl [pyr]; · iexact pyr
      isplitl [tfxs]; · iexact tfxs
      isplitl [tfxr]; · iexact tfxr
      isplitl [gx]; · iexact gx
      isplitl [tfys]; · iexact tfys
      isplitl [tfyr]; · iexact tfyr
      isplitl [gy]; · iexact gy
      isplitl [cfy]; · iexact cfy
      isplitl [pfyr]; · iexact pfyr
      isplitl [trxs]; · iexact trxs
      isplitl [trxr]; · iexact trxr
      iexact g2
    isplitl [cfx pfxr cr prxr pzs pxs pys prxs pfxs pfys pco]
    · isplitl [cfx pfxr cr prxr]
      · isplitl [cfx]; · iexact cfx
        isplitl [pfxr]; · iexact pfxr
        isplitl [cr]; · iexact cr
        iexact prxr
      isplitl [pzs]; · iexact pzs
      isplitl [pxs pys]
      · isplitl [pxs]; · iexact pxs
        iexact pys
      isplitl [prxs]; · iexact prxs
      isplitl [pfxs pfys]
      · isplitl [pfxs]; · iexact pfxs
        iexact pfys
      iexact pco
    isplitl [prys]; · iexact prys
    iexact pryr
  · simp only [if_neg h, tgt, id_eq]
    iintro ⟨⟨⟨gz, gx, gy⟩, ⟨g1, -⟩, g3, g2⟩, ⟨mx, mr, mo⟩, ⟨pzs, pzr, pxs, pxr, pys, pyr, prxs, prxr, prys, pryr, pfxs, pfxr, pfys, pfyr, pco⟩, ⟨tzs, tzr, txs, txr, tys, tyr, trxs, trxr, trys, tryr, tfxs, tfxr, tfys, tfyr, tco⟩, czr, cxr, cyr, cfx, cfy, cr⟩
    isplitl [mx gz tzs tzr]
    · isplitl [mx]; · iexact mx
      isplitl [gz]; · iexact gz
      isplitl [tzs]; · iexact tzs
      iexact tzr
    isplitl [czr pzr mr txs txr g1 tys tyr g3 tco mo]
    · isplitl [czr]; · iexact czr
      isplitl [pzr]; · iexact pzr
      isplitl [mr]; · iexact mr
      isplitl [txs]; · iexact txs
      isplitl [txr]; · iexact txr
      isplitl [g1]; · iexact g1
      isplitl [tys]; · iexact tys
      isplitl [tyr]; · iexact tyr
      isplitl [g3]; · iexact g3
      isplitl [tco]; · iexact tco
      iexact mo
    isplitl [cxr pxr cyr pyr tfxs tfxr gx tfys tfyr gy cfx pfxr trys tryr g2]
    · isplitl [cxr]; · iexact cxr
      isplitl [pxr]; · iexact pxr
      isplitl [cyr]; · iexact cyr
      isplitl [pyr]; · iexact pyr
      isplitl [tfxs]; · iexact tfxs
      isplitl [tfxr]; · iexact tfxr
      isplitl [gx]; · iexact gx
      isplitl [tfys]; · iexact tfys
      isplitl [tfyr]; · iexact tfyr
      isplitl [gy]; · iexact gy
      isplitl [cfx]; · iexact cfx
      isplitl [pfxr]; · iexact pfxr
      isplitl [trys]; · iexact trys
      isplitl [tryr]; · iexact tryr
      iexact g2
    isplitl [cfy pfyr cr pryr pzs pxs pys prys pfxs pfys pco]
    · isplitl [cfy pfyr cr pryr]
      · isplitl [cfy]; · iexact cfy
        isplitl [pfyr]; · iexact pfyr
        isplitl [cr]; · iexact cr
        iexact pryr
      isplitl [pzs]; · iexact pzs
      isplitl [pxs pys]
      · isplitl [pxs]; · iexact pxs
        iexact pys
      isplitl [prys]; · iexact prys
      isplitl [pfxs pfys]
      · isplitl [pfxs]; · iexact pfxs
        iexact pfys
      iexact pco
    isplitl [prxs]; · iexact prxs
    iexact prxr

/-- What is left at chunk `k`: all its semaphores at zero, and the buffers. -/
def endK : sProp 𝕄 :=
  iprop((bigSep Finset.univ fun f : Fam => nil (F := F) c (st f k)) ∗ xP c (row (rb c) k) sL (inp m c) ∗ zP c (ck k) fullShare (zrB m c)
    ∗ rP c (ck k) fullShare (rdB m c) ∗ oP c (row (rb c) k) fullShare (fin m c) ∗ oP c (row (rb (xn c)) k) fullShare (fin m c)
    ∗ oP c (row (rb (yn c)) k) fullShare (fin m c) ∗ oP c (row (rb (xyn c)) k) fullShare (fin m c))

/-- What the loops leave at chunk `k`, besides what they pass on. -/
def rest1 : sProp 𝕄 := iprop(nil (F := F) c (st .zr k) ∗ zP c (ck k) fullShare (zrB m c) ∗ rP c (ck k \ ckc k (dirC c) 896) sR (rdB m c))
def rest2 : sProp 𝕄 :=
  iprop(nil (F := F) c (st .xr k) ∗ nil (F := F) c (st .yr k) ∗ oP c (mid c (rb (xn c)) k) sL (fin m c) ∗ oP c (mid c (rb (yn c)) k) sL (fin m c) ∗ early m c k)
def left4 : sProp 𝕄 := iprop(nil (F := F) c (st .zs k) ∗ payF m c k .zs)
def left5 : sProp 𝕄 := iprop((nil (F := F) c (st .xs k) ∗ nil (F := F) c (st .ys k)) ∗ payF m c k .xs ∗ payF m c k .ys)
def left7 : sProp 𝕄 := iprop((nil (F := F) c (st .fxs k) ∗ nil (F := F) c (st .fys k)) ∗ payF m c k .fxs ∗ payF m c k .fys)
def left8 : sProp 𝕄 := iprop(nil (F := F) c (st .co k) ∗ payF m c k .co)

theorem gather : iprop(rest1 m c k ∗ rest2 m c k ∗ B3 m c k ∗ left4 m c k ∗ left5 m c k ∗ B6 m c k ∗ left7 m c k ∗ left8 m c k ∗ idle' (F := F) c k)
    ⊢ endK m c k := by
  unfold rest1 rest2 early B3 left4 left5 B6 left7 left8 idle' endK payF
  rw [bigSep_fam]
  by_cases h : k.val % 2 = 0
  · simp only [if_pos h]
    iintro ⟨⟨pzr, hz, hr⟩, ⟨pxr, pyr, mx, my, pfyr, fiy⟩, ⟨pfxr, prxr, fix, rx, rd⟩, ⟨pzs, hx⟩, ⟨⟨pxs, pys⟩, d1, d2⟩, ⟨prxs, ry⟩, ⟨⟨pfxs, pfys⟩, fox, foy⟩, ⟨pco, ho, hl⟩, prys, pryr⟩
    isplitl [pzs pzr pxs pxr pys pyr prxs prxr prys pryr pfxs pfxr pfys pfyr pco]
    · isplitl [pzs]; · iexact pzs
      isplitl [pzr]; · iexact pzr
      isplitl [pxs]; · iexact pxs
      isplitl [pxr]; · iexact pxr
      isplitl [pys]; · iexact pys
      isplitl [pyr]; · iexact pyr
      isplitl [prxs]; · iexact prxs
      isplitl [prxr]; · iexact prxr
      isplitl [prys]; · iexact prys
      isplitl [pryr]; · iexact pryr
      isplitl [pfxs]; · iexact pfxs
      isplitl [pfxr]; · iexact pfxr
      isplitl [pfys]; · iexact pfys
      isplitl [pfyr]; · iexact pfyr
      iexact pco
    isplitl [hx]; · iexact hx
    isplitl [hz]; · iexact hz
    isplitl [hr d1 d2 hl]
    · iapply (join_sum c k (rdB m c))
      isplitl [hl]; · iexact hl
      isplitl [d1]; · iexact d1
      isplitl [d2]; · iexact d2
      iexact hr
    isplitl [ho]; · iexact ho
    isplitl [fox mx fix rx]
    · iapply (join_all c (rb (xn c)) k (fin m c))
      isplitl [fox]; · iexact fox
      isplitl [mx]; · iexact mx
      isplitl [fix]; · iexact fix
      iexact rx
    isplitl [foy my fiy ry]
    · iapply (join_all c (rb (yn c)) k (fin m c))
      isplitl [foy]; · iexact foy
      isplitl [my]; · iexact my
      isplitl [fiy]; · iexact fiy
      iexact ry
    iexact rd
  · simp only [if_neg h]
    iintro ⟨⟨pzr, hz, hr⟩, ⟨pxr, pyr, mx, my, pfxr, fix⟩, ⟨pfyr, pryr, fiy, ry, rd⟩, ⟨pzs, hx⟩, ⟨⟨pxs, pys⟩, d1, d2⟩, ⟨prys, rx⟩, ⟨⟨pfxs, pfys⟩, fox, foy⟩, ⟨pco, ho, hl⟩, prxs, prxr⟩
    isplitl [pzs pzr pxs pxr pys pyr prxs prxr prys pryr pfxs pfxr pfys pfyr pco]
    · isplitl [pzs]; · iexact pzs
      isplitl [pzr]; · iexact pzr
      isplitl [pxs]; · iexact pxs
      isplitl [pxr]; · iexact pxr
      isplitl [pys]; · iexact pys
      isplitl [pyr]; · iexact pyr
      isplitl [prxs]; · iexact prxs
      isplitl [prxr]; · iexact prxr
      isplitl [prys]; · iexact prys
      isplitl [pryr]; · iexact pryr
      isplitl [pfxs]; · iexact pfxs
      isplitl [pfxr]; · iexact pfxr
      isplitl [pfys]; · iexact pfys
      isplitl [pfyr]; · iexact pfyr
      iexact pco
    isplitl [hx]; · iexact hx
    isplitl [hz]; · iexact hz
    isplitl [hr d1 d2 hl]
    · iapply (join_sum c k (rdB m c))
      isplitl [hl]; · iexact hl
      isplitl [d1]; · iexact d1
      isplitl [d2]; · iexact d2
      iexact hr
    isplitl [ho]; · iexact ho
    isplitl [fox mx fix rx]
    · iapply (join_all c (rb (xn c)) k (fin m c))
      isplitl [fox]; · iexact fox
      isplitl [mx]; · iexact mx
      isplitl [fix]; · iexact fix
      iexact rx
    isplitl [foy my fiy ry]
    · iapply (join_all c (rb (yn c)) k (fin m c))
      isplitl [foy]; · iexact foy
      isplitl [my]; · iexact my
      isplitl [fiy]; · iexact fiy
      iexact ry
    iexact rd

/-- The semaphores of a chunk that are never used close. -/
theorem close_idle : iprop(records m K ∗ idle (F := F) c k) ⊢ iprop(|={Set.univ}=> idle' (F := F) c k) := by
  unfold idle idle'
  by_cases h : k.val % 2 = 0
  · rw [if_pos h, if_pos h]
    iintro ⟨#HR, H1, H2⟩
    imod (close_unused m K c (st .rys k) (if_neg (show ¬k.val % 2 = 1 by omega))) $$ [H1] with H1
    · isplitr; · iexact HR
      iexact H1
    imod (close_unused m K c (st .ryr k) (if_neg (show ¬k.val % 2 = 1 by omega))) $$ [H2] with H2
    · isplitr; · iexact HR
      iexact H2
    imodintro
    isplitl [H1] <;> iassumption
  · rw [if_neg h, if_neg h]
    iintro ⟨#HR, H1, H2⟩
    imod (close_unused m K c (st .rxs k) (if_neg h)) $$ [H1] with H1
    · isplitr; · iexact HR
      iexact H1
    imod (close_unused m K c (st .rxr k) (if_neg h)) $$ [H2] with H2
    · isplitr; · iexact HR
      iexact H2
    imodintro
    isplitl [H1] <;> iassumption

end Cert.KernelIdeal.AllReduce

end
-- ==== Proof.Body.lean ====
/- The body of each device, from what it starts with to what it ends with. -/
module

public import proofs.«01_k».proof.Proof.Chunks
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-! ## The loops -/

theorem loopZ : iprop(records m K ∗ owesE (F := F) c (rem (owed2 c) 16 + rem (owed1 c) 16 + rem (owedZ c) 16) ∗ bigSep Finset.univ (AZ m c))
    ⊢ run c (loopFrom (zSend c) 16) (fun _ => iprop(owesE (F := F) c (rem (owed2 c) 16 + rem (owed1 c) 16)
      ∗ bigSep Finset.univ fun k : Fin 16 => crd (F := F) c (st .zs k))) := by
  iintro ⟨#HR, HO, HA⟩
  iapply (run_wand c _ (owed_loop m K c (zSend c) (rem (owed2 c) 16 + rem (owed1 c) 16) (owedZ c) (fun _ => iprop(emp)) (AZ m c)
    (fun k => crd (F := F) c (st .zs k)) fun k => chunkZ m K c k _)) $$ [HO HA]
  · isplitr; · iexact HR
    isplitl [HO]; · iexact HO
    isplitr; · iempintro
    iexact HA
  iintro ⟨HO, -, HB⟩
  isplitl [HO] <;> iassumption

theorem loop1 : iprop(records m K ∗ owesE (F := F) c (rem (owed2 c) 16 + rem (owed1 c) 16) ∗ cpS m c 0 ∗ bigSep Finset.univ (A1 (F := F) c))
    ⊢ run c (loopFrom (step1 c) 16) (fun _ => iprop(owesE (F := F) c (rem (owed2 c) 16) ∗ cpS m c 16 ∗ bigSep Finset.univ (B1 m c))) :=
  owed_loop m K c (step1 c) (rem (owed2 c) 16) (owed1 c) (cpS m c) (A1 c) (B1 m c) fun k => chunk1 m K c k
    ((Above.rem le_rfl fun j _ => above_owed2 c j (by omega)).add (Above.rem (by omega) fun j _ => above_owed1 (by decide) c j))

theorem loop2 : iprop(records m K ∗ owesE (F := F) c (rem (owed2 c) 16) ∗ bigSep Finset.univ (A2 (F := F) c))
    ⊢ run c (loopFrom (step2 c) 16) (fun _ => iprop(owesE (F := F) c 0 ∗ bigSep Finset.univ (B2 m c))) := by
  iintro ⟨#HR, HO, HA⟩
  rw [show rem (owed2 c) 16 = 0 + rem (owed2 c) 16 from (zero_add _).symm]
  iapply (run_wand c _ (owed_loop m K c (step2 c) 0 (owed2 c) (fun _ => iprop(emp)) (A2 c) (B2 m c) fun k => chunk2 m K c k
    ((Above.zero _).add (Above.rem (by omega) fun j hj => above_owed2 c j (by have := k.isLt; omega))))) $$ [HO HA]
  · isplitr; · iexact HR
    isplitl [HO]; · iexact HO
    isplitr; · iempintro
    iexact HA
  iintro ⟨HO, -, HB⟩
  isplitl [HO] <;> iassumption

theorem loop3 : iprop(records m K ∗ owesE (F := F) c 0 ∗ bigSep Finset.univ (D3 (F := F) c) ∗ bigSep Finset.univ (kept m c))
    ⊢ run c (loopFrom (step3 c) 16) (fun _ => iprop(owesE (F := F) c 0 ∗ bigSep Finset.univ (B3 m c))) := by
  rw [← bigSep_sep']
  exact plain_loop m K c _ _ _ fun k => chunk3 m K c k

theorem loop4 : iprop(records m K ∗ owesE (F := F) c 0 ∗ (bigSep Finset.univ fun k : Fin 16 => iprop(pos (F := F) c (st .zs k))) ∗ (bigSep Finset.univ fun k : Fin 16 => iprop(crd (F := F) c (st .zs k))))
    ⊢ run c (loopFrom (wait4 c) 16) (fun _ => iprop(owesE (F := F) c 0 ∗ bigSep Finset.univ (left4 m c))) := by
  rw [← bigSep_sep']
  exact plain_loop m K c _ _ _ fun k => chunk4 m K c k

theorem loop5 : iprop(records m K ∗ owesE (F := F) c 0 ∗ (bigSep Finset.univ fun k : Fin 16 => iprop(pos (F := F) c (st .xs k) ∗ pos (F := F) c (st .ys k))) ∗ (bigSep Finset.univ fun k : Fin 16 => iprop(crd (F := F) c (st .xs k) ∗ crd (F := F) c (st .ys k))))
    ⊢ run c (loopFrom (wait5 c) 16) (fun _ => iprop(owesE (F := F) c 0 ∗ bigSep Finset.univ (left5 m c))) := by
  rw [← bigSep_sep']
  exact plain_loop m K c _ _ _ fun k => chunk5 m K c k

theorem loop6 : iprop(records m K ∗ owesE (F := F) c 0 ∗ (bigSep Finset.univ fun k : Fin 16 => iprop(D6 (F := F) c k)) ∗ (bigSep Finset.univ fun k : Fin 16 => iprop(relayed (F := F) c k)))
    ⊢ run c (loopFrom (wait6 c) 16) (fun _ => iprop(owesE (F := F) c 0 ∗ bigSep Finset.univ (B6 m c))) := by
  rw [← bigSep_sep']
  exact plain_loop m K c _ _ _ fun k => chunk6 m K c k

theorem loop7 : iprop(records m K ∗ owesE (F := F) c 0 ∗ (bigSep Finset.univ fun k : Fin 16 => iprop(pos (F := F) c (st .fxs k) ∗ pos (F := F) c (st .fys k))) ∗ (bigSep Finset.univ fun k : Fin 16 => iprop(crd (F := F) c (st .fxs k) ∗ crd (F := F) c (st .fys k))))
    ⊢ run c (loopFrom (wait7 c) 16) (fun _ => iprop(owesE (F := F) c 0 ∗ bigSep Finset.univ (left7 m c))) := by
  rw [← bigSep_sep']
  exact plain_loop m K c _ _ _ fun k => chunk7 m K c k

theorem loop8 : iprop(records m K ∗ owesE (F := F) c 0 ∗ (bigSep Finset.univ fun k : Fin 16 => iprop(pos (F := F) c (st .co k))) ∗ (bigSep Finset.univ fun k : Fin 16 => iprop(crd (F := F) c (st .co k))))
    ⊢ run c (loopFrom (wait8 c) 16) (fun _ => iprop(owesE (F := F) c 0 ∗ bigSep Finset.univ (left8 m c))) := by
  rw [← bigSep_sep']
  exact plain_loop m K c _ _ _ fun k => chunk8 m K c k

/-! ## The meeting -/

/-- What a device hands to its neighbour with its signal. -/
theorem pay_nb (δ : Fin 3) : pay m (nb δ c) bar δ = bigSep Finset.univ fun k : Fin 16 => giveK (F := F) c k δ := by
  show (bigSep Finset.univ fun k : Fin 16 => giveK (F := F) (nb δ (nb δ c)) k δ) = _
  rw [nb_nb]

theorem gifts : bigSep (dutiesR bar) (pay m c bar) ⊢ bigSep Finset.univ (giftK (F := F) c) := by
  have h : bigSep (dutiesR bar) (pay m c bar) = iprop(pay m c bar 0 ∗ pay m c bar 1 ∗ pay m c bar 2) :=
    bigSep_univ_eq_bigSepL [0, 1, 2] (by decide) (by decide) (pay m c bar)
  rw [h, show giftK (F := F) c = fun k => iprop(giveK (F := F) (zn c) k 0 ∗ giveK (F := F) (xn c) k 1 ∗ giveK (F := F) (yn c) k 2) from rfl,
    bigSep_sep', bigSep_sep']
  exact Entails.refl _

theorem meet_step {O : CellTallies nD τ sig Unit} (hO : Above 1 O) :
    iprop(records m K ∗ owesE (F := F) c (O + due (yn c) bar + due (xn c) bar + due (zn c) bar)
        ∗ (tok (F := F) (zn c) bar 0 ∗ tok (F := F) (xn c) bar 1 ∗ tok (F := F) (yn c) bar 2)
        ∗ ((bigSep Finset.univ fun k : Fin 16 => giveK (F := F) c k 0) ∗ (bigSep Finset.univ fun k : Fin 16 => giveK (F := F) c k 1)
          ∗ bigSep Finset.univ fun k : Fin 16 => giveK (F := F) c k 2)
        ∗ cred (tallyAt (kcell c bar) () 3) ∗ pos (F := F) c bar)
      ⊢ run c (meet c) (fun _ => iprop(owesE (F := F) c O ∗ nil (F := F) c bar ∗ bigSep Finset.univ (giftK (F := F) c))) := by
  unfold meet
  rw [run_bind]
  iintro ⟨#HR, HO, ⟨t0, t1, t2⟩, ⟨g0, g1, g2⟩, Hc, Hp⟩
  iapply (signal_step m K c (zn c) 0 (O := O + due (yn c) bar + due (xn c) bar)) $$ [HO t0 g0]
  · isplitr; · iexact HR
    isplitl [HO]; · iexact HO
    isplitl [t0]; · iexact t0
    iapply (Entails.of_eq (pay_nb m c 0).symm); iexact g0
  iintro HO
  rw [run_bind]
  iapply (signal_step m K c (xn c) 1 (O := O + due (yn c) bar)) $$ [HO t1 g1]
  · isplitr; · iexact HR
    isplitl [HO]; · iexact HO
    isplitl [t1]; · iexact t1
    iapply (Entails.of_eq (pay_nb m c 1).symm); iexact g1
  iintro HO
  rw [run_bind]
  iapply (signal_step m K c (yn c) 2 (O := O)) $$ [HO t2 g2]
  · isplitr; · iexact HR
    isplitl [HO]; · iexact HO
    isplitl [t2]; · iexact t2
    iapply (Entails.of_eq (pay_nb m c 2).symm); iexact g2
  iintro HO
  iapply (wait_step m K c bar (n := 3) rfl (w := .semWait barSem 3) (fun Kt => wpE_semWait_eq 𝒱₀ (c : Thread nD τ) none Set.univ Kt) hO) $$ [HO Hc Hp]
  · isplitr; · iexact HR
    isplitl [Hc]; · iexact Hc
    isplitl [HO]; · iexact HO
    iexact Hp
  iintro ⟨HO, Hn, Hg⟩
  isplitl [HO]; · iexact HO
  isplitl [Hn]; · iexact Hn
  iapply (gifts m c); iexact Hg

/-! ## The body -/

/-- What device `c` starts from, besides what it owes. -/
def startC : sProp 𝕄 :=
  iprop((tok (F := F) (zn c) bar 0 ∗ tok (F := F) (xn c) bar 1 ∗ tok (F := F) (yn c) bar 2)
    ∗ ((bigSep Finset.univ fun k : Fin 16 => giveK (F := F) c k 0) ∗ (bigSep Finset.univ fun k : Fin 16 => giveK (F := F) c k 1)
      ∗ bigSep Finset.univ fun k : Fin 16 => giveK (F := F) c k 2)
    ∗ cred (tallyAt (kcell c bar) () 3) ∗ pos (F := F) c bar ∗ tok (F := F) c cp ∗ pos (F := F) c cp
    ∗ aAny (F := F) c Finset.univ ∗ xP c (blk (rb c)) sR (inp m c)
    ∗ bigSep Finset.univ (memK m c) ∗ bigSep Finset.univ (ghostK (F := F) c))
/-- What it ends with. -/
def endC : sProp 𝕄 :=
  iprop(nil (F := F) c bar ∗ nil (F := F) c cp ∗ aP c Finset.univ fullShare (rawB m c) ∗ xP c (blk (rb c)) sR (inp m c)
    ∗ bigSep Finset.univ (endK m c))

theorem deal_all : iprop(bigSep Finset.univ (giftK (F := F) c) ∗ bigSep Finset.univ (memK m c) ∗ bigSep Finset.univ (ghostK (F := F) c))
    ⊢ iprop(bigSep Finset.univ (AZ m c) ∗ bigSep Finset.univ (A1 (F := F) c) ∗ bigSep Finset.univ (A2 (F := F) c)
      ∗ bigSep Finset.univ (ends (F := F) c) ∗ bigSep Finset.univ (idle (F := F) c)) := by
  rw [← bigSep_sep', ← bigSep_sep', ← bigSep_sep', ← bigSep_sep', ← bigSep_sep', ← bigSep_sep']
  exact bigSep_mono fun k _ => deal m c k

theorem ends_all : bigSep Finset.univ (ends (F := F) c) ⊢ iprop(bigSep Finset.univ (D3 (F := F) c)
    ∗ (bigSep Finset.univ fun k : Fin 16 => pos (F := F) c (st .zs k))
    ∗ (bigSep Finset.univ fun k : Fin 16 => iprop(pos (F := F) c (st .xs k) ∗ pos (F := F) c (st .ys k))) ∗ bigSep Finset.univ (D6 (F := F) c)
    ∗ (bigSep Finset.univ fun k : Fin 16 => iprop(pos (F := F) c (st .fxs k) ∗ pos (F := F) c (st .fys k)))
    ∗ bigSep Finset.univ fun k : Fin 16 => pos (F := F) c (st .co k)) := by
  rw [← bigSep_sep', ← bigSep_sep', ← bigSep_sep', ← bigSep_sep', ← bigSep_sep']
  exact Entails.refl _

theorem B1_all : bigSep Finset.univ (B1 m c) ⊢ iprop((bigSep Finset.univ fun k : Fin 16 => iprop(crd (F := F) c (st .xs k) ∗ crd (F := F) c (st .ys k)))
    ∗ (bigSep Finset.univ fun k : Fin 16 => crd (F := F) c (st .co k)) ∗ bigSep Finset.univ (rest1 m c)) := by
  rw [← bigSep_sep', ← bigSep_sep']
  exact Entails.refl _

theorem B2_all : bigSep Finset.univ (B2 m c) ⊢ iprop(bigSep Finset.univ (kept m c) ∗ bigSep Finset.univ (relayed (F := F) c)
    ∗ (bigSep Finset.univ fun k : Fin 16 => iprop(crd (F := F) c (st .fxs k) ∗ crd (F := F) c (st .fys k))) ∗ bigSep Finset.univ (rest2 m c)) := by
  rw [← bigSep_sep', ← bigSep_sep', ← bigSep_sep']
  exact Entails.refl _

theorem gather_all : iprop(bigSep Finset.univ (rest1 m c) ∗ bigSep Finset.univ (rest2 m c) ∗ bigSep Finset.univ (B3 m c) ∗ bigSep Finset.univ (left4 m c)
      ∗ bigSep Finset.univ (left5 m c) ∗ bigSep Finset.univ (B6 m c) ∗ bigSep Finset.univ (left7 m c) ∗ bigSep Finset.univ (left8 m c)
      ∗ bigSep Finset.univ (idle' (F := F) c)) ⊢ bigSep Finset.univ (endK m c) := by
  rw [← bigSep_sep', ← bigSep_sep', ← bigSep_sep', ← bigSep_sep', ← bigSep_sep', ← bigSep_sep', ← bigSep_sep', ← bigSep_sep']
  exact bigSep_mono fun k _ => gather m c k

theorem close_all : iprop(records m K ∗ bigSep Finset.univ (idle (F := F) c)) ⊢ iprop(|={Set.univ}=> bigSep Finset.univ (idle' (F := F) c)) :=
  (sep_mono_left (BI.bigSep_of_persistent Finset.univ (records m K))).trans (by
    rw [← bigSep_sep']
    exact (bigSep_mono fun k _ => close_idle m K c k).trans (bigSep_fupd _ _))

set_option maxHeartbeats 2000000 in
/-- The body of device `c`. -/
theorem body_run : iprop(records m K ∗ owesE (F := F) c (owed0 c) ∗ startC m c)
    ⊢ run c (bodyOf c) (fun _ => iprop(owesE (F := F) c 0 ∗ endC m c)) := by
  unfold bodyOf startC endC owed0
  iintro ⟨#HR, HO, Ht, Hg, Hc, Hp, Htc, Hpc, Ha, Hx, HM, HG⟩
  rw [run_bind]
  iapply (run_wand c _ (meet_step m K c (((Above.rem le_rfl fun j _ => above_owed2 c j (by omega)).add
    (Above.rem le_rfl fun j _ => above_owed1 (by decide) c j)).add (Above.rem le_rfl fun j _ => above_owedZ (by decide) c j)))) $$ [HO Ht Hg Hc Hp]
  · isplitr; · iexact HR
    isplitl [HO]; · iexact HO
    isplitl [Ht]; · iexact Ht
    isplitl [Hg]; · iexact Hg
    isplitl [Hc]; · iexact Hc
    iexact Hp
  iintro ⟨HO, Hnb, Hgift⟩
  ihave Hd := (deal_all m c) $$ [Hgift HM HG]
  · isplitl [Hgift]; · iexact Hgift
    isplitl [HM] <;> iassumption
  icases Hd with ⟨HAZ, HA1, HA2, He, Hi⟩
  ihave He' := (ends_all (F := F) c) $$ He
  icases He' with ⟨E3, E4, E5, E6, E7, E8⟩
  rw [run_bind]
  iapply (run_wand c _ (loopZ m K c)) $$ [HO HAZ]
  · isplitr; · iexact HR
    isplitl [HO]; · iexact HO
    iexact HAZ
  iintro ⟨HO, C4⟩
  rw [run_bind]
  iapply (cpRaw_step m K c) $$ [Hx Ha Htc]
  · isplitr; · iexact HR
    isplitl [Hx]; · iexact Hx
    isplitl [Ha]; · iexact Ha
    iexact Htc
  iintro Hcc
  rw [run_bind]
  iapply (run_wand c _ (loop1 m K c)) $$ [HO HA1 Hcc Hpc]
  · isplitr; · iexact HR
    isplitl [HO]; · iexact HO
    isplitl [Hcc Hpc]
    · unfold cpS; isplitl [Hcc] <;> iassumption
    iexact HA1
  iintro ⟨HO, Hcp, HB⟩
  ihave HB' := (B1_all m c) $$ HB
  icases HB' with ⟨C5, C8, R1⟩
  rw [run_bind]
  iapply (run_wand c _ (loop2 m K c)) $$ [HO HA2]
  · isplitr; · iexact HR
    isplitl [HO]; · iexact HO
    iexact HA2
  iintro ⟨HO, HB⟩
  ihave HB' := (B2_all m c) $$ HB
  icases HB' with ⟨C3, C6, C7, R2⟩
  rw [run_bind]
  iapply (run_wand c _ (loop3 m K c)) $$ [HO E3 C3]
  · isplitr; · iexact HR
    isplitl [HO]; · iexact HO
    isplitl [E3]; · iexact E3
    iexact C3
  iintro ⟨HO, R3⟩
  rw [run_bind]
  iapply (run_wand c _ (loop4 m K c)) $$ [HO E4 C4]
  · isplitr; · iexact HR
    isplitl [HO]; · iexact HO
    isplitl [E4]; · iexact E4
    iexact C4
  iintro ⟨HO, R4⟩
  rw [run_bind]
  iapply (run_wand c _ (loop5 m K c)) $$ [HO E5 C5]
  · isplitr; · iexact HR
    isplitl [HO]; · iexact HO
    isplitl [E5]; · iexact E5
    iexact C5
  iintro ⟨HO, R5⟩
  rw [run_bind]
  iapply (run_wand c _ (loop6 m K c)) $$ [HO E6 C6]
  · isplitr; · iexact HR
    isplitl [HO]; · iexact HO
    isplitl [E6]; · iexact E6
    iexact C6
  iintro ⟨HO, R6⟩
  rw [run_bind]
  iapply (run_wand c _ (loop7 m K c)) $$ [HO E7 C7]
  · isplitr; · iexact HR
    isplitl [HO]; · iexact HO
    isplitl [E7]; · iexact E7
    iexact C7
  iintro ⟨HO, R7⟩
  imod (close_all m K c) $$ [Hi] with Hi
  · isplitr; · iexact HR
    iexact Hi
  iapply (run_wand c _ (loop8 m K c)) $$ [HO E8 C8]
  · isplitr; · iexact HR
    isplitl [HO]; · iexact HO
    isplitl [E8]; · iexact E8
    iexact C8
  iintro ⟨HO, R8⟩
  ihave HE := (gather_all m c) $$ [R1 R2 R3 R4 R5 R6 R7 R8 Hi]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact Hi
  simp only [cpS]
  icases Hcp with ⟨Ha, Hx, Hnc⟩
  isplitl [HO]; · iexact HO
  isplitl [Hnb]; · iexact Hnb
  isplitl [Hnc]; · iexact Hnc
  isplitl [Ha]; · iexact Ha
  isplitl [Hx]; · iexact Hx
  iexact HE

end Cert.KernelIdeal.AllReduce

end
-- ==== Proof.Buffers.lean ====
/- The buffers of each device, whole at the start and at the end, in chunks between. -/
module

public import proofs.«01_k».proof.Proof.Body
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The chunks cover the buffers -/

/-- The four blocks, a device's own first. -/
def nth (c : Dev nD) : Fin 4 → ℕ
  | 0 => rb c
  | 1 => rb (xn c)
  | 2 => rb (yn c)
  | 3 => rb (xyn c)

theorem nth_inj : ∀ (c : Dev nD) (i j : Fin 4), nth c i = nth c j → i = j := by decide +kernel
theorem nth_onto : ∀ (c : Dev nD) (b : Fin 4), ∃ j, nth c j = b.val := by decide +kernel

theorem row_disj {b b' : ℕ} {k k' : Fin 16} (h : (b, k) ≠ (b', k')) : Disjoint (row b k) (row b' k') := by
  refine box_disjoint ?_
  have := k.isLt; have := k'.isLt
  by_cases hb : b = b'
  · have hk : k.val ≠ k'.val := fun e => h (by rw [hb, Fin.ext e])
    omega
  · omega

theorem ck_disj {k k' : Fin 16} (h : k ≠ k') : Disjoint (ck k) (ck k') := by
  refine box_disjoint ?_
  have hk : k.val ≠ k'.val := fun e => h (Fin.ext e)
  omega

theorem ck_cover : (Finset.univ : Finset S4096x1024.Idx) = Finset.univ.biUnion ck := by
  ext i
  simp only [Finset.mem_univ, Finset.mem_biUnion, true_and, true_iff]
  have h0 : (i 0).val < 4096 := (i 0).isLt
  have h1 : (i 1).val < 1024 := (i 1).isLt
  refine ⟨⟨(i 0).val / 256, by omega⟩, mem_box.mpr ?_⟩
  show (256 * ((i 0).val / 256) ≤ _ ∧ _ < 256 * ((i 0).val / 256) + 256) ∧ _
  omega

theorem blk_cover (b : ℕ) : blk b = Finset.univ.biUnion (row b) := by
  ext i
  simp only [Finset.mem_univ, Finset.mem_biUnion, true_and, mem_box]
  have h1 : (i 1).val < 1024 := (i 1).isLt
  constructor
  · intro h
    refine ⟨⟨((i 0).val - 4096 * b) / 256, by omega⟩, ?_⟩
    show (4096 * b + 256 * (((i 0).val - 4096 * b) / 256) ≤ _ ∧ _ < 4096 * b + 256 * (((i 0).val - 4096 * b) / 256) + 256) ∧ _
    omega
  · rintro ⟨k, h⟩
    have := k.isLt
    omega

theorem out_cover : (Finset.univ : Finset S16384x1024.Idx) = Finset.univ.biUnion fun p : Fin 4 × Fin 16 => row (nth c p.1) p.2 := by
  ext i
  simp only [Finset.mem_univ, Finset.mem_biUnion, true_and, true_iff]
  have h0 : (i 0).val < 16384 := (i 0).isLt
  have h1 : (i 1).val < 1024 := (i 1).isLt
  obtain ⟨j, hj⟩ := nth_onto c ⟨(i 0).val / 4096, by omega⟩
  refine ⟨(j, ⟨(i 0).val % 4096 / 256, by omega⟩), mem_box.mpr ?_⟩
  show (4096 * nth c j + 256 * ((i 0).val % 4096 / 256) ≤ _ ∧ _ < 4096 * nth c j + 256 * ((i 0).val % 4096 / 256) + 256) ∧ _
  rw [hj]
  show (4096 * ((i 0).val / 4096) + 256 * ((i 0).val % 4096 / 256) ≤ _ ∧ _ < 4096 * ((i 0).val / 4096) + 256 * ((i 0).val % 4096 / 256) + 256) ∧ _
  omega

/-- A whole scratch buffer is its chunks. -/
theorem z_chunks (f : Vec F S4096x1024 .f32) : (zP c Finset.univ fullShare f : sProp 𝕄) = bigSep Finset.univ fun k : Fin 16 => zP c (ck k) fullShare f := by
  rw [ck_cover]; exact pointsTo_biUnion (ℓ := (c : Thread nD τ).loc cc0_scratch0) Finset.univ ck fun k _ k' _ h => ck_disj h
theorem r_chunks (f : Vec F S4096x1024 .f32) : (rP c Finset.univ fullShare f : sProp 𝕄) = bigSep Finset.univ fun k : Fin 16 => rP c (ck k) fullShare f := by
  rw [ck_cover]; exact pointsTo_biUnion (ℓ := (c : Thread nD τ).loc cc0_scratch2) Finset.univ ck fun k _ k' _ h => ck_disj h

/-- A device's block of its argument is its chunks. -/
theorem x_chunks (b : ℕ) (q : PosShare TreeShare) (f : Vec F S16384x1024 .f32) :
    (xP c (blk b) q f : sProp 𝕄) = bigSep Finset.univ fun k : Fin 16 => xP c (row b k) q f := by
  rw [blk_cover]; exact pointsTo_biUnion (ℓ := (c : Thread nD τ).loc main_arg0) Finset.univ (row b) fun k _ k' _ h => row_disj fun e => h (Prod.mk.inj e).2

/-- The whole result is the chunks of its four blocks. -/
theorem o_chunks (f : Vec F S16384x1024 .f32) : (oP c Finset.univ fullShare f : sProp 𝕄)
    = iprop((bigSep Finset.univ fun k : Fin 16 => oP c (row (rb c) k) fullShare f) ∗ (bigSep Finset.univ fun k : Fin 16 => oP c (row (rb (xn c)) k) fullShare f)
      ∗ (bigSep Finset.univ fun k : Fin 16 => oP c (row (rb (yn c)) k) fullShare f) ∗ bigSep Finset.univ fun k : Fin 16 => oP c (row (rb (xyn c)) k) fullShare f) := by
  have h4 (Φ : Fin 4 → sProp 𝕄) : bigSep Finset.univ Φ = iprop(Φ 0 ∗ Φ 1 ∗ Φ 2 ∗ Φ 3) := by
    rw [bigSep_univ_eq_bigSepL ([0, 1, 2, 3] : List (Fin 4)) (by decide) (by decide)]; rfl
  have h : (oP c Finset.univ fullShare f : sProp 𝕄) = bigSep Finset.univ fun p : Fin 4 × Fin 16 => oP c (row (nth c p.1) p.2) fullShare f := by
    rw [out_cover c]
    exact pointsTo_biUnion (ℓ := (c : Thread nD τ).loc main_v1) Finset.univ (fun p : Fin 4 × Fin 16 => row (nth c p.1) p.2) fun p _ p' _ hne => row_disj fun e => hne
      (Prod.ext (nth_inj c _ _ (Prod.mk.inj e).1) (Prod.mk.inj e).2)
  rw [h, bigSep_univ_prod, h4]
  rfl

/-! ## What each device gives and keeps at the start -/

theorem cut_row (b : ℕ) (k : Fin 16) (q : PosShare TreeShare) (f : Vec F S16384x1024 .f32) : (oP c (row b k) q f : sProp 𝕄)
    ⊢ iprop(oP c (cols b k (dirC c) 896) q f ∗ oP c (cols b k (fiC c) 128) q f) := by
  have h := (pointsTo_union (ℓ := (c : Thread nD τ).loc main_v1) (q := q) (f := f) (Ix := Unit) (Name := ℕ) (U := UU) (Lvl := ℕ)
    (Val := Elt F) (dir_disj_fi c b k)).1
  rw [dir_union_fi] at h
  exact h

theorem split_chunk (k : Fin 16) (f : Vec F S16384x1024 .f32) (g h : Vec F S4096x1024 .f32) :
    iprop(zP c (ck k) fullShare g ∗ rP c (ck k) fullShare h ∗ xP c (row (rb c) k) sL (inp m c) ∗ oP c (row (rb c) k) fullShare f
        ∗ oP c (row (rb (xn c)) k) fullShare f ∗ oP c (row (rb (yn c)) k) fullShare f ∗ oP c (row (rb (xyn c)) k) fullShare f)
      ⊢ iprop(giveK (F := F) c k 0 ∗ giveK (F := F) c k 1 ∗ giveK (F := F) c k 2 ∗ memK m c k) := by
  iintro ⟨Hz, Hr, Hx, Ho, H1, H2, H3⟩
  ihave H1' := (cut_row c (rb (xn c)) k fullShare f) $$ H1
  icases H1' with ⟨D1, F1⟩
  ihave H2' := (cut_row c (rb (yn c)) k fullShare f) $$ H2
  icases H2' with ⟨D2, F2⟩
  unfold giveK memK
  isplitl [Hz F1 F2]
  · isplitl [Hz]; · iexists g; iexact Hz
    isplitl [F1]; · iexists f; iexact F1
    iexists f; iexact F2
  by_cases hk : k.val % 2 = 0
  · simp only [if_pos hk]
    isplitl [D1 H3]
    · isplitl [D1]; · iexists f; iexact D1
      iexists f; iexact H3
    isplitl [D2]
    · isplitl [D2]; · iexists f; iexact D2
      iempintro
    isplitl [Hx]; · iexact Hx
    isplitl [Hr]; · iexists h; iexact Hr
    iexists f; iexact Ho
  · simp only [if_neg hk]
    isplitl [D1]
    · isplitl [D1]; · iexists f; iexact D1
      iempintro
    isplitl [D2 H3]
    · isplitl [D2]; · iexists f; iexact D2
      iexists f; iexact H3
    isplitl [Hx]; · iexact Hx
    isplitl [Hr]; · iexists h; iexact Hr
    iexists f; iexact Ho

/-- All of a device's buffers at the start. -/
def wholes : sProp 𝕄 :=
  iprop((xP c Finset.univ fullShare (inp m c) ∗ oAny (F := F) c Finset.univ) ∗ zAny (F := F) c Finset.univ ∗ aAny (F := F) c Finset.univ ∗ rAny (F := F) c Finset.univ)

/-- The rest of a device's argument. -/
def others : sProp 𝕄 := xP c (Finset.univ \ blk (rb c)) fullShare (inp m c)

theorem split_wholes : wholes m c ⊢ iprop(others m c ∗ ((bigSep Finset.univ fun k : Fin 16 => giveK (F := F) c k 0)
    ∗ (bigSep Finset.univ fun k : Fin 16 => giveK (F := F) c k 1) ∗ bigSep Finset.univ fun k : Fin 16 => giveK (F := F) c k 2)
    ∗ aAny (F := F) c Finset.univ ∗ xP c (blk (rb c)) sR (inp m c) ∗ bigSep Finset.univ (memK m c)) := by
  unfold wholes others
  iintro ⟨⟨Hx, ⟨%f, Ho⟩⟩, ⟨%g, Hz⟩, Ha, ⟨%h, Hr⟩⟩
  ihave Hx' := (show (xP c Finset.univ fullShare (inp m c) : sProp 𝕄) ⊢ _ from (pointsTo_split_subset (Finset.subset_univ (blk (rb c)))).1) $$ Hx
  icases Hx' with ⟨Hb, Hx⟩
  ihave Hb' := (pointsTo_share (PosShare.mem_left_op_right fullShare)).1 $$ Hb
  icases Hb' with ⟨Hl, Hr'⟩
  ihave Hl := (Entails.of_eq (x_chunks c (rb c) sL (inp m c))) $$ Hl
  ihave Hz := (Entails.of_eq (z_chunks c g)) $$ Hz
  ihave Hr := (Entails.of_eq (r_chunks c h)) $$ Hr
  ihave Ho := (Entails.of_eq (o_chunks c f)) $$ Ho
  icases Ho with ⟨H0, H1, H2, H3⟩
  ihave HS := (show iprop((bigSep Finset.univ fun k : Fin 16 => zP c (ck k) fullShare g) ∗ (bigSep Finset.univ fun k : Fin 16 => rP c (ck k) fullShare h)
      ∗ (bigSep Finset.univ fun k : Fin 16 => xP c (row (rb c) k) sL (inp m c)) ∗ (bigSep Finset.univ fun k : Fin 16 => oP c (row (rb c) k) fullShare f)
      ∗ (bigSep Finset.univ fun k : Fin 16 => oP c (row (rb (xn c)) k) fullShare f) ∗ (bigSep Finset.univ fun k : Fin 16 => oP c (row (rb (yn c)) k) fullShare f)
      ∗ bigSep Finset.univ fun k : Fin 16 => oP c (row (rb (xyn c)) k) fullShare f)
      ⊢ iprop((bigSep Finset.univ fun k : Fin 16 => giveK (F := F) c k 0) ∗ (bigSep Finset.univ fun k : Fin 16 => giveK (F := F) c k 1)
        ∗ (bigSep Finset.univ fun k : Fin 16 => giveK (F := F) c k 2) ∗ bigSep Finset.univ (memK m c)) by
    rw [← bigSep_sep', ← bigSep_sep', ← bigSep_sep', ← bigSep_sep', ← bigSep_sep', ← bigSep_sep', ← bigSep_sep', ← bigSep_sep', ← bigSep_sep']
    exact bigSep_mono fun k _ => split_chunk m c k f g h) $$ [Hz Hr Hl H0 H1 H2 H3]
  · isplitl [Hz]; · iexact Hz
    isplitl [Hr]; · iexact Hr
    isplitl [Hl]; · iexact Hl
    isplitl [H0]; · iexact H0
    isplitl [H1]; · iexact H1
    isplitl [H2] <;> iassumption
  icases HS with ⟨G0, G1, G2, HM⟩
  isplitl [Hx]; · iexact Hx
  isplitl [G0 G1 G2]
  · isplitl [G0]; · iexact G0
    isplitl [G1] <;> iassumption
  isplitl [Ha]; · iexact Ha
  isplitl [Hr'] <;> iassumption

/-! ## What each device has at the end -/

/-- All of the semaphores of a device's arrays, at zero. -/
def zeros : sProp 𝕄 := bigSep Finset.univ fun k : Fin 16 => bigSep Finset.univ fun f : Fam => nil (F := F) c (st f k)

theorem join_wholes : iprop(others m c ∗ endC m c) ⊢ iprop(nil (F := F) c bar ∗ (nil (F := F) c cp ∗ zeros (F := F) c)
    ∗ (zAny (F := F) c Finset.univ ∗ aAny (F := F) c Finset.univ ∗ rAny (F := F) c Finset.univ)
    ∗ xP c Finset.univ fullShare (inp m c) ∗ oP c Finset.univ fullShare (fin m c)) := by
  have hE : bigSep Finset.univ (endK m c) ⊢ iprop((bigSep Finset.univ fun k : Fin 16 => bigSep Finset.univ fun f : Fam => nil (F := F) c (st f k))
      ∗ (bigSep Finset.univ fun k : Fin 16 => xP c (row (rb c) k) sL (inp m c)) ∗ (bigSep Finset.univ fun k : Fin 16 => zP c (ck k) fullShare (zrB m c))
      ∗ (bigSep Finset.univ fun k : Fin 16 => rP c (ck k) fullShare (rdB m c)) ∗ (bigSep Finset.univ fun k : Fin 16 => oP c (row (rb c) k) fullShare (fin m c))
      ∗ (bigSep Finset.univ fun k : Fin 16 => oP c (row (rb (xn c)) k) fullShare (fin m c)) ∗ (bigSep Finset.univ fun k : Fin 16 => oP c (row (rb (yn c)) k) fullShare (fin m c))
      ∗ bigSep Finset.univ fun k : Fin 16 => oP c (row (rb (xyn c)) k) fullShare (fin m c)) := by
    rw [← bigSep_sep', ← bigSep_sep', ← bigSep_sep', ← bigSep_sep', ← bigSep_sep', ← bigSep_sep', ← bigSep_sep']
    exact Entails.refl _
  unfold others endC zeros
  iintro ⟨Hx, Hnb, Hnc, Ha, Hr', HE⟩
  ihave HE' := hE $$ HE
  icases HE' with ⟨Hn, Hl, Hz, Hr, H0, H1, H2, H3⟩
  isplitl [Hnb]; · iexact Hnb
  isplitl [Hnc Hn]; · isplitl [Hnc] <;> iassumption
  isplitl [Hz Ha Hr]
  · isplitl [Hz]
    · iexists (zrB m c); iapply (Entails.of_eq (z_chunks c (zrB m c)).symm); iexact Hz
    isplitl [Ha]; · iexists (rawB m c); iexact Ha
    iexists (rdB m c); iapply (Entails.of_eq (r_chunks c (rdB m c)).symm); iexact Hr
  isplitl [Hx Hl Hr']
  · iapply (show _ ⊢ (xP c Finset.univ fullShare (inp m c) : sProp 𝕄) from (pointsTo_split_subset (Finset.subset_univ (blk (rb c)))).2)
    isplitr [Hx]
    · iapply (pointsTo_share (PosShare.mem_left_op_right fullShare)).2
      isplitl [Hl]
      · iapply (Entails.of_eq (x_chunks c (rb c) sL (inp m c)).symm); iexact Hl
      iexact Hr'
    iexact Hx
  iapply (Entails.of_eq (o_chunks c (fin m c)).symm)
  isplitl [H0]; · iexact H0
  isplitl [H1]; · iexact H1
  isplitl [H2] <;> iassumption

end Cert.KernelIdeal.AllReduce

end
-- ==== Proof.Rights.lean ====
/- The rights of each device at the launch: what it may expect, its places at its semaphores, the payments it makes. -/
module

public import proofs.«01_k».proof.Proof.Buffers
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What each device may expect -/

theorem rem_eq (f : Fin 16 → CellTallies nD τ sig Unit) : ∀ n, n ≤ 16 → rem f n = ∑ k ∈ last n, f k
  | 0, _ => by rw [last_0, Finset.sum_empty]; rfl
  | n + 1, h => by
    rw [last_succ h, Finset.sum_insert (not_mem_last h), ← rem_eq f n (by omega)]; exact add_comm _ _

theorem rem_all (f : Dev nD → Fin 16 → CellTallies nD τ sig Unit) : (fun d => rem (f d) 16) = fun d => ∑ k : Fin 16, f d k :=
  funext fun d => by rw [rem_eq (f d) 16 le_rfl, last_16]

theorem expect_due (f : Dev nD → Dev nD) (h : ∀ d, f (f d) = d) (ρ : Role) :
    (Pipeline.launchCred (fun d => due (f d) ρ) c : sProp 𝕄) ⊢ crd (F := F) c ρ :=
  Pipeline.launchCred_tallyAt (semOf ρ) f f h h () (amt ρ) c

theorem expect1 (k : Fin 16) : (Pipeline.launchCred (fun d => owed1 d k) c : sProp 𝕄) ⊢ iprop(crd (F := F) c (st .yr k) ∗ crd (F := F) c (st .xr k)) := by
  unfold owed1
  rw [Pipeline.launchCred_add]
  exact BIClass.sep_mono (expect_due c yn yn_yn _) (expect_due c xn xn_xn _)

theorem expectR (k : Fin 16) : (Pipeline.launchCred (fun d => owedR d k) c : sProp 𝕄)
    ⊢ iprop(if k.val % 2 = 0 then crd (F := F) c (st .rxr k) else crd (F := F) c (st .ryr k)) := by
  by_cases h : k.val % 2 = 0
  · rw [if_pos h, show (fun d => owedR d k) = fun d => due (xn d) (st .rxr k) from funext fun d => if_pos h]
    exact expect_due c xn xn_xn _
  · rw [if_neg h, show (fun d => owedR d k) = fun d => due (yn d) (st .ryr k) from funext fun d => if_neg h]
    exact expect_due c yn yn_yn _

theorem expect2 (k : Fin 16) : (Pipeline.launchCred (fun d => owed2 d k) c : sProp 𝕄)
    ⊢ iprop(((if k.val % 2 = 0 then crd (F := F) c (st .rxr k) else crd (F := F) c (st .ryr k)) ∗ crd (F := F) c (st .fyr k)) ∗ crd (F := F) c (st .fxr k)) := by
  unfold owed2
  rw [Pipeline.launchCred_add, Pipeline.launchCred_add]
  exact BIClass.sep_mono (BIClass.sep_mono (expectR c k) (expect_due c zn zn_zn _)) (expect_due c zn zn_zn _)

theorem expectK (k : Fin 16) : iprop(Pipeline.launchCred (fun d => owed2 d k) c ∗ Pipeline.launchCred (fun d => owed1 d k) c
    ∗ Pipeline.launchCred (fun d => owedZ d k) c) ⊢ credK (F := F) c k := by
  unfold credK
  iintro ⟨H2, H1, HZ⟩
  ihave H2 := (expect2 (F := F) c k) $$ H2
  ihave H1 := (expect1 (F := F) c k) $$ H1
  ihave HZ := (show (Pipeline.launchCred (fun d => owedZ d k) c : sProp 𝕄) ⊢ crd (F := F) c (st .zr k) from expect_due c zn zn_zn _) $$ HZ
  icases H2 with ⟨⟨Hr, Hfy⟩, Hfx⟩
  icases H1 with ⟨Hy, Hx⟩
  isplitl [HZ]; · iexact HZ
  isplitl [Hx]; · iexact Hx
  isplitl [Hy]; · iexact Hy
  isplitl [Hfx]; · iexact Hfx
  isplitl [Hfy] <;> iassumption

/-- Three signals at the barrier. -/
theorem three : iprop(crd (F := F) c bar ∗ crd (F := F) c bar ∗ crd (F := F) c bar) ⊢ (cred (tallyAt (kcell c bar) () 3) : sProp 𝕄) := by
  have h : (tallyAt (kcell c bar) () 3 : CellTallies nD τ sig Unit) = due c bar + (due c bar + due c bar) := by
    unfold due
    rw [tallyAt_add, tallyAt_add]
    rfl
  rw [h]
  iintro ⟨H1, H2, H3⟩
  iapply (cred_add _ _).2
  isplitl [H1]; · iexact H1
  iapply (cred_add _ _).2
  isplitl [H2] <;> iassumption

theorem expects : (Pipeline.launchCred owed0 c : sProp 𝕄)
    ⊢ iprop(cred (tallyAt (kcell c bar) () 3) ∗ bigSep Finset.univ (credK (F := F) c)) := by
  rw [show (owed0 : Dev nD → CellTallies nD τ sig Unit) = fun d => rem (owed2 d) 16 + rem (owed1 d) 16 + rem (owedZ d) 16 + due (yn d) bar + due (xn d) bar + due (zn d) bar from rfl,
    Pipeline.launchCred_add, Pipeline.launchCred_add, Pipeline.launchCred_add, Pipeline.launchCred_add, Pipeline.launchCred_add,
    rem_all, rem_all, rem_all,
    Pipeline.launchCred_sum Finset.univ (fun k d => owed2 d k), Pipeline.launchCred_sum Finset.univ (fun k d => owed1 d k),
    Pipeline.launchCred_sum Finset.univ (fun k d => owedZ d k)]
  iintro ⟨⟨⟨⟨⟨H2, H1⟩, HZ⟩, By⟩, Bx⟩, Bz⟩
  ihave By := (show (Pipeline.launchCred (fun d => due (yn d) bar) c : sProp 𝕄) ⊢ crd (F := F) c bar from expect_due c yn yn_yn _) $$ By
  ihave Bx := (show (Pipeline.launchCred (fun d => due (xn d) bar) c : sProp 𝕄) ⊢ crd (F := F) c bar from expect_due c xn xn_xn _) $$ Bx
  ihave Bz := (show (Pipeline.launchCred (fun d => due (zn d) bar) c : sProp 𝕄) ⊢ crd (F := F) c bar from expect_due c zn zn_zn _) $$ Bz
  isplitl [By Bx Bz]
  · iapply (three (F := F) c)
    isplitl [By]; · iexact By
    isplitl [Bx] <;> iassumption
  iapply (show iprop((bigSep Finset.univ fun k : Fin 16 => Pipeline.launchCred (fun d => owed2 d k) c) ∗ (bigSep Finset.univ fun k : Fin 16 => Pipeline.launchCred (fun d => owed1 d k) c)
      ∗ bigSep Finset.univ fun k : Fin 16 => Pipeline.launchCred (fun d => owedZ d k) c) ⊢ (bigSep Finset.univ (credK (F := F) c) : sProp 𝕄) by
    rw [← bigSep_sep', ← bigSep_sep']
    exact bigSep_mono fun k _ => expectK c k)
  isplitl [H2]; · iexact H2
  isplitl [H1] <;> iassumption

/-! ## The semaphores, one by one -/

/-- Over all semaphores: the barrier, that of the copy, and chunk by chunk. -/
theorem roles (Φ : Role → sProp 𝕄) : bigSep Finset.univ Φ
    = iprop(Φ bar ∗ Φ cp ∗ bigSep Finset.univ fun k : Fin 16 => bigSep Finset.univ fun f : Fam => Φ (st f k)) := by
  rw [bigSep_univ_sum, bigSep_univ_of_subsingleton (), bigSep_univ_sum, bigSep_univ_of_subsingleton (),
    bigSep_univ_prod, bigSep_univ_comm]
  rfl

/-- A device's own right to pay its semaphores. -/
def toks : sProp 𝕄 :=
  iprop((bigSep Finset.univ fun δ : Fin 3 => tok (F := F) c bar δ) ∗ tok (F := F) c cp
    ∗ bigSep Finset.univ fun k : Fin 16 => bigSep Finset.univ fun f : Fam => tok (F := F) c (st f k))

/-- The payments each device makes. -/
def pays : sProp 𝕄 :=
  iprop((bigSep Finset.univ fun δ : Fin 3 => tok (F := F) (nb δ c) bar δ) ∗ tok (F := F) c cp
    ∗ bigSep Finset.univ fun k : Fin 16 => bigSep Finset.univ fun f : Fam => tok (F := F) (tgt f c) (st f k))

theorem tgt_tgt : ∀ (f : Fam) (d : Dev nD), tgt f (tgt f d) = d := by decide +kernel

/-- Reindexing along an involution of the devices, at each index. -/
theorem around {I : Type} [Fintype I] (g : I → Dev nD → Dev nD) (hg : ∀ i d, g i (g i d) = d) (Φ : Dev nD → I → sProp 𝕄) :
    (bigSep Finset.univ fun c : Dev nD => bigSep Finset.univ fun i : I => Φ c i) = bigSep Finset.univ fun c : Dev nD => bigSep Finset.univ fun i : I => Φ (g i c) i := by
  rw [bigSep_univ_comm, bigSep_univ_comm (fun (c : Dev nD) (i : I) => Φ (g i c) i)]
  exact bigSep_congr fun i _ => bigSep_univ_equiv ⟨g i, g i, hg i, hg i⟩ fun c => Φ c i

theorem toks_around : (bigSep Finset.univ fun c : Dev nD => (toks (F := F) c)) ⊢ bigSep Finset.univ fun c : Dev nD => pays (F := F) c := by
  have hf : (bigSep Finset.univ fun c : Dev nD => bigSep Finset.univ fun k : Fin 16 => bigSep Finset.univ fun f : Fam => tok (F := F) c (st f k))
      = bigSep Finset.univ fun c : Dev nD => bigSep Finset.univ fun k : Fin 16 => bigSep Finset.univ fun f : Fam => tok (F := F) (tgt f c) (st f k) := by
    rw [bigSep_univ_comm, bigSep_univ_comm (fun (c : Dev nD) (k : Fin 16) => bigSep Finset.univ fun f : Fam => tok (F := F) (tgt f c) (st f k))]
    exact bigSep_congr fun k _ => around tgt tgt_tgt fun c f => tok (F := F) c (st f k)
  unfold toks pays
  rw [bigSep_sep', bigSep_sep', bigSep_sep', bigSep_sep', around nb nb_nb (fun (c : Dev nD) (δ : Fin 3) => tok (F := F) c bar δ), hf]

/-! ## The launch of the semaphores -/

def cells : Finset (GSem nD τ sig) := Finset.univ.map ⟨fun x : Dev nD × Role => kcell x.1 x.2, kcell_inj⟩

/-- The name of a payment: the barrier's three, and one for every other semaphore. -/
def tokOf (x : Dev nD × (Fin 3 ⊕ OwnRole)) : GSem nD τ sig × ℕ × Fin 3 := match x.2 with
  | .inl δ => (kcell x.1 bar, 0, δ)
  | .inr o => (kcell x.1 (.inr o), 0, 0)

theorem tokOf_inj : Function.Injective tokOf := by
  rintro ⟨c, δ | o⟩ ⟨c', δ' | o'⟩ h
  · have h1 := kcell_inj (a₁ := (c, bar)) (a₂ := (c', bar)) (Prod.mk.inj h).1
    have h2 : δ = δ' := (Prod.mk.inj (Prod.mk.inj h).2).2
    rw [(Prod.mk.inj h1).1, h2]
  · have h1 := kcell_inj (a₁ := (c, bar)) (a₂ := (c', .inr o')) (Prod.mk.inj h).1
    cases (Prod.mk.inj h1).2
  · have h1 := kcell_inj (a₁ := (c, .inr o)) (a₂ := (c', bar)) (Prod.mk.inj h).1
    cases (Prod.mk.inj h1).2
  · have h1 := kcell_inj (a₁ := (c, .inr o)) (a₂ := (c', .inr o')) (Prod.mk.inj h).1
    have h2 : o = o' := by injection (Prod.mk.inj h1).2
    rw [(Prod.mk.inj h1).1, h2]

def allToks : Finset (GSem nD τ sig × ℕ × Fin 3) := Finset.univ.map ⟨tokOf, tokOf_inj⟩

/-- What the launch deals device `c` for its semaphores. -/
def dealt : sProp 𝕄 :=
  iprop((bigSep Finset.univ fun ρ : Role => roundState ER (sched m) (kcell c ρ) 0)
    ∗ (bigSep Finset.univ fun ρ : Role => pos (F := F) c ρ) ∗ (bigSep Finset.univ fun ρ : Role => reached (ER (F := F)) (kcell c ρ) 0) ∗ toks (F := F) c)

theorem fund_cells : BI.own (ER (initOf cells allToks)) ⊢ (|==> bigSep Finset.univ (dealt m) : sProp 𝕄) := by
  have hX (Φ : GSem nD τ sig → sProp 𝕄) : bigSep cells Φ = bigSep Finset.univ fun c : Dev nD => bigSep Finset.univ fun ρ : Role => Φ (kcell c ρ) := by
    unfold cells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    rw [bigSep_univ_sum]
    unfold toks
    have h := bigSep_univ_sum (fun o : OwnRole => tok (F := F) c (.inr o))
    rw [bigSep_univ_of_subsingleton (), bigSep_univ_prod, bigSep_univ_comm] at h
    exact congrArg (fun P : sProp 𝕄 => iprop((bigSep Finset.univ fun δ : Fin 3 => tok (F := F) c bar δ) ∗ P)) h
  iintro HX
  imod (Rounds.fund ER (sched m) cells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  rw [show (dealt m : Dev nD → sProp 𝕄) = fun c => iprop((bigSep Finset.univ fun ρ : Role => roundState ER (sched m) (kcell c ρ) 0)
    ∗ (bigSep Finset.univ fun ρ : Role => pos (F := F) c ρ) ∗ (bigSep Finset.univ fun ρ : Role => reached (ER (F := F)) (kcell c ρ) 0) ∗ toks (F := F) c) from rfl,
    bigSep_sep', bigSep_sep', bigSep_sep']
  isplitl [Hst']; · iexact Hst'
  isplitl [Hat']; · iexact Hat'
  isplitl [Hr'] <;> iassumption

theorem unscoped_eq : (unscopedSems0 c : sProp 𝕄) = nil (F := F) c bar := by
  unfold unscopedSems0; rw [bigSep_eq_bigSepL_of_eq [SemLoc.reg barSem] (by decide) (by decide)]; rfl

theorem owns_eq : (Pipeline.ownSems0 (Ix := Unit) (Name := ℕ) (U := UU) (Lvl := ℕ) (Val := Elt F) (τ := τ) ownSem c : sProp 𝕄)
    = iprop(nil (F := F) c cp ∗ zeros (F := F) c) := by
  have h := bigSep_univ_sum (fun o : OwnRole => nil (F := F) c (.inr o))
  rw [bigSep_univ_of_subsingleton (), bigSep_univ_prod, bigSep_univ_comm] at h
  exact h

theorem all_zero : iprop(Pipeline.ownSems0 (Ix := Unit) (Name := ℕ) (U := UU) (Lvl := ℕ) (Val := Elt F) (τ := τ) ownSem c ∗ unscopedSems0 c)
    ⊢ (bigSep Finset.univ fun ρ : Role => nil (F := F) c ρ) := by
  rw [roles, owns_eq, unscoped_eq]
  unfold zeros
  iintro ⟨⟨H1, H2⟩, H3⟩
  isplitl [H3]; · iexact H3
  isplitl [H1] <;> iassumption

theorem alloc_one : iprop(Pipeline.ownSems0 (Ix := Unit) (Name := ℕ) (U := UU) (Lvl := ℕ) (Val := Elt F) (τ := τ) ownSem c ∗ unscopedSems0 c ∗ dealt m c)
    ⊢ |={Set.univ}=> iprop((bigSep Finset.univ fun ρ : Role => iprop(∃ κ : ℕ, cellInv ER (sched m) κ (kcell c ρ)))
      ∗ (bigSep Finset.univ fun ρ : Role => pos (F := F) c ρ) ∗ (bigSep Finset.univ fun ρ : Role => reached (ER (F := F)) (kcell c ρ) 0) ∗ toks (F := F) c) := by
  unfold dealt
  iintro ⟨Hos, Hus, Hst, Hrest⟩
  ihave Hv := (all_zero (F := F) c) $$ [Hos Hus]
  · isplitl [Hos] <;> iassumption
  imod (show iprop((bigSep Finset.univ fun ρ : Role => nil (F := F) c ρ) ∗ bigSep Finset.univ fun ρ : Role => roundState ER (sched m) (kcell c ρ) 0)
      ⊢ (|={Set.univ}=> bigSep Finset.univ fun ρ : Role => iprop(∃ κ : ℕ, cellInv ER (sched m) κ (kcell c ρ)) : sProp 𝕄) from by
        rw [← bigSep_sep']
        exact (bigSep_mono fun ρ _ => (Rounds.body_intro ER (sched m) (kcell c ρ)).trans inv_alloc).trans (bigSep_fupd _ _)) $$ [Hv Hst] with Hinv
  · isplitl [Hv] <;> iassumption
  imodintro
  isplitl [Hinv] <;> iassumption

/-- What all devices know of the semaphores. -/
def known (K : Dev nD × Role → ℕ) : sProp 𝕄 :=
  iprop((bigSep Finset.univ fun x : Dev nD × Role => cellInv ER (sched m) (K x) (kcell x.1 x.2))
    ∗ (bigSep Finset.univ fun x : Dev nD × Role => reached ER (kcell x.1 x.2) 0))

instance known_persistent (K) : BI.Persistent (known (F := F) m K) := by unfold known; infer_instance

/-- A device's places and payments. -/
def rights : sProp 𝕄 := iprop((bigSep Finset.univ fun ρ : Role => pos (F := F) c ρ) ∗ pays (F := F) c)

def shared : sProp 𝕄 := iprop(∃ K, known m K ∗ rights (F := F) c)

theorem shared_intro (K : Dev nD × Role → ℕ) : iprop(known m K ∗ rights (F := F) c) ⊢ shared m c := by
  unfold shared
  iintro H
  iexists K
  iexact H

theorem regroup : (bigSep Finset.univ fun c => iprop((bigSep Finset.univ fun ρ : Role => iprop(∃ κ : ℕ, cellInv ER (sched m) κ (kcell c ρ)))
      ∗ (bigSep Finset.univ fun ρ : Role => pos (F := F) c ρ) ∗ (bigSep Finset.univ fun ρ : Role => reached (ER (F := F)) (kcell c ρ) 0) ∗ toks (F := F) c) : sProp 𝕄)
      ⊢ bigSep Finset.univ (shared m) := by
  rw [bigSep_sep', bigSep_sep', bigSep_sep',
    ← bigSep_univ_prod (fun x : Dev nD × Role => iprop(∃ κ : ℕ, cellInv ER (sched m) κ (kcell x.1 x.2))),
    ← bigSep_univ_prod (fun x : Dev nD × Role => (reached ER (kcell x.1 x.2) 0 : sProp 𝕄))]
  iintro ⟨HI, Hat, #HR, Htok⟩
  ihave HK := (BI.bigSep_exists_pi Finset.univ (fun (x : Dev nD × Role) (κ : ℕ) => (cellInv ER (sched m) κ (kcell x.1 x.2) : sProp 𝕄))) $$ HI
  icases HK with ⟨%K, #HI⟩
  ihave Htk := (toks_around (F := F)) $$ Htok
  iapply (show iprop(known m K ∗ bigSep Finset.univ (rights (F := F))) ⊢ (bigSep Finset.univ (shared m) : sProp 𝕄) from
    (sep_mono_left (BI.bigSep_of_persistent Finset.univ (known m K))).trans (by
      rw [← bigSep_sep']
      exact bigSep_mono fun c _ => shared_intro m c K))
  isplitr
  · unfold known; isplitl; · iexact HI
    iexact HR
  rw [show (rights (F := F)) = fun c => iprop((bigSep Finset.univ fun ρ : Role => pos (F := F) c ρ) ∗ pays (F := F) c) from rfl, bigSep_sep']
  isplitl [Hat] <;> iassumption

theorem alloc_all : (bigSep Finset.univ fun c => iprop(Pipeline.ownSems0 (Ix := Unit) (Name := ℕ) (U := UU) (Lvl := ℕ) (Val := Elt F) (τ := τ) ownSem c
      ∗ unscopedSems0 c ∗ dealt m c) : sProp 𝕄) ⊢ |={Set.univ}=> bigSep Finset.univ (shared m) := by
  exact ((bigSep_mono fun c _ => alloc_one m c).trans (bigSep_fupd _ _)).trans (BI.fupd_mono (regroup m))

end Cert.KernelIdeal.AllReduce

end
-- ==== Proof.Launch.lean ====
/- The launch: from any memory, every run of the eight kernels ends with the sum in each device's result. -/
module

public import proofs.«01_k».proof.Proof.Rights
public import Idealize.ShloMosaic.Lib.Pipeline.CollectiveSegs
public import Idealize.ShloMosaic.Lib.Pipeline.Kit
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device holds around its kernel -/

/-- What the launch hands device `c`, its scratch buffers aside. -/
def entry : sProp 𝕄 :=
  iprop((∃ K, records m K ∗ rights (F := F) c) ∗ (cred (tallyAt (kcell c bar) () 3) ∗ bigSep Finset.univ (credK (F := F) c))
    ∗ xP c Finset.univ fullShare (inp m c) ∗ oAny (F := F) c Finset.univ)

/-- Before the kernel; -/
def before : sProp 𝕄 := iprop(entry m c ∗ zAny (F := F) c Finset.univ ∗ aAny (F := F) c Finset.univ ∗ rAny (F := F) c Finset.univ)

/-- after it, the scratch buffers and the counters of its own semaphores aside. -/
def exit : sProp 𝕄 := iprop(nil (F := F) c bar ∗ xP c Finset.univ fullShare (inp m c) ∗ oP c Finset.univ fullShare (fin m c))

def after : sProp 𝕄 := iprop(nil (F := F) c bar ∗ (nil (F := F) c cp ∗ zeros (F := F) c)
  ∗ (zAny (F := F) c Finset.univ ∗ aAny (F := F) c Finset.univ ∗ rAny (F := F) c Finset.univ)
  ∗ xP c Finset.univ fullShare (inp m c) ∗ oP c Finset.univ fullShare (fin m c))

/-! ## The body from the rights dealt -/

theorem rights_cut : rights (F := F) c ⊢ iprop((tok (F := F) (zn c) bar 0 ∗ tok (F := F) (xn c) bar 1 ∗ tok (F := F) (yn c) bar 2)
    ∗ pos (F := F) c bar ∗ tok (F := F) c cp ∗ pos (F := F) c cp
    ∗ (bigSep Finset.univ fun k : Fin 16 => bigSep Finset.univ fun f : Fam => pos (F := F) c (st f k))
    ∗ bigSep Finset.univ fun k : Fin 16 => bigSep Finset.univ fun f : Fam => tok (F := F) (tgt f c) (st f k)) := by
  have h : (bigSep Finset.univ fun δ : Fin 3 => tok (F := F) (nb δ c) bar δ)
      = iprop(tok (F := F) (zn c) bar 0 ∗ tok (F := F) (xn c) bar 1 ∗ tok (F := F) (yn c) bar 2) := by
    rw [bigSep_univ_eq_bigSepL ([0, 1, 2] : List (Fin 3)) (by decide) (by decide)]; rfl
  unfold rights pays
  rw [roles, h]
  iintro ⟨⟨pb, pc, ps⟩, tb, tc, ts⟩
  isplitl [tb]; · iexact tb
  isplitl [pb]; · iexact pb
  isplitl [tc]; · iexact tc
  isplitl [pc]; · iexact pc
  isplitl [ps] <;> iassumption

theorem ghost_all : iprop((bigSep Finset.univ fun k : Fin 16 => bigSep Finset.univ fun f : Fam => pos (F := F) c (st f k))
    ∗ (bigSep Finset.univ fun k : Fin 16 => bigSep Finset.univ fun f : Fam => tok (F := F) (tgt f c) (st f k))
    ∗ bigSep Finset.univ (credK (F := F) c)) ⊢ bigSep Finset.univ (ghostK (F := F) c) := by
  rw [← bigSep_sep', ← bigSep_sep']
  exact Entails.refl _

theorem body_after : iprop(before m c ∗ owesE (F := F) c (owed0 c))
    ⊢ run c (bodyOf c) (fun _ => iprop(owesE (F := F) c 0 ∗ after m c)) := by
  unfold before entry
  iintro ⟨⟨⟨⟨%K, #HR, Hg⟩, ⟨Hb, Hc⟩, Hx, Ho⟩, Hz, Ha, Hr⟩, HO⟩
  ihave Hg := (rights_cut (F := F) c) $$ Hg
  icases Hg with ⟨tb, pb, tc, pc, ps, ts⟩
  ihave Hw := (split_wholes m c) $$ [Hx Ho Hz Ha Hr]
  · unfold wholes
    isplitl [Hx Ho]
    · isplitl [Hx] <;> iassumption
    isplitl [Hz]; · iexact Hz
    isplitl [Ha] <;> iassumption
  icases Hw with ⟨Hoth, Hgive, Ha, Hx, Hm⟩
  ihave Hgh := (ghost_all (F := F) c) $$ [ps ts Hc]
  · isplitl [ps]; · iexact ps
    isplitl [ts] <;> iassumption
  iapply (run_wand c _ (body_run m K c)) $$ [HO tb pb tc pc Hgive Hb Ha Hx Hm Hgh]
  · isplitr; · iexact HR
    isplitl [HO]; · iexact HO
    unfold startC
    isplitl [tb]; · iexact tb
    isplitl [Hgive]; · iexact Hgive
    isplitl [Hb]; · iexact Hb
    isplitl [pb]; · iexact pb
    isplitl [tc]; · iexact tc
    isplitl [pc]; · iexact pc
    isplitl [Ha]; · iexact Ha
    isplitl [Hx]; · iexact Hx
    isplitl [Hm] <;> iassumption
  iintro ⟨HO, HE⟩
  isplitl [HO]; · iexact HO
  unfold after
  iapply (join_wholes m c)
  isplitl [Hoth] <;> iassumption

/-! ## The one region of the program -/

def dats (_ : Fin 1) (c : Dev nD) : Pipeline.Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => owed0 c
    | ⟨_ + 1, _⟩ => 0

theorem start_run : iprop(before m c ∗ (dats m 0 c).owesAt () (t0_0 : Fin cfg0.N).castSucc)
    ⊢ run c (bodyAt0 (F := F) t0_0) (fun _ => iprop(after m c ∗ (dats m 0 c).owesAt () (t0_0 : Fin cfg0.N).succ)) := by
  rw [body_eq]
  simp only [Prog.lift, Prog.bind_op, Prog.bind_ret, Prog.pure_eq_ret, wp_deviceId]
  iintro ⟨Hb, ⟨%W, %hW, HO⟩⟩
  iapply (run_wand c _ (body_after m c)) $$ [Hb HO]
  · isplitl [Hb]; · iexact Hb
    unfold owesE
    iexists W
    iexact HO
  unfold owesE
  iintro ⟨⟨%W', HO⟩, Ha⟩
  isplitl [Ha]; · iexact Ha
  iexists W'
  isplitr
  · ipureintro; exact fun _ _ => Or.inl trivial
  iexact HO

theorem no_windows (Φ : Fin 0 → sProp 𝕄) : bigSep Finset.univ Φ = iprop(emp) := by
  rw [show (Finset.univ : Finset (Fin 0)) = ∅ from rfl]
  exact bigSep_empty

set_option maxRecDepth 100000 in
theorem body_obligation : Pipeline.BodyObligation (dats m 0 c) (defs₀ (F := F)) 𝒱₀ () Set.univ := fun t => by
  rw [fin_N0 t]
  show iprop(before m c ∗ (dats m 0 c).owesAt () (t0_0 : Fin cfg0.N).castSucc ∗ bigSep (Finset.univ : Finset (Fin 0)) _)
    ⊢ run c (bodyAt0 (F := F) t0_0) (fun _ => iprop(after m c ∗ (dats m 0 c).owesAt () (t0_0 : Fin cfg0.N).succ ∗ bigSep (Finset.univ : Finset (Fin 0)) _))
  simp only [no_windows]
  iintro ⟨Hb, HO, -⟩
  iapply (run_wand c _ (start_run m c)) $$ [Hb HO]
  · isplitl [Hb] <;> iassumption
  iintro ⟨Ha, HO⟩
  isplitl [Ha]; · iexact Ha
  isplitl [HO]; · iexact HO
  iempintro

/-! ## The launch -/

theorem scoped_all : ∀ o : OwnRole, (ownSem o).isScoped .tc = true := by decide +kernel

theorem ownSemFacts : Pipeline.OwnSemFacts cfg0.spec ownSem := ⟨scoped_all, ownSem_inj, fun _ w => w.elim0⟩

def u₀ : UU := (initOf (Pipeline.cells cfgs cellOf_inj) (Pipeline.launchToks cfgs cellOf_inj), initOf cells allToks)

theorem entry_intro : iprop(Pipeline.unscopedRestP Pipeline.Prefetch.none cfg0.spec c (fun b => m ((c : Thread nD τ).loc b)) ∗ levAts L lv
    ∗ Pipeline.launchCred owed0 c ∗ prngReg c (ρ c) ∗ shared m c) ⊢ |={Set.univ}=> iprop(entry m c ∗ emp) := by
  rw [Pipeline.unscopedRestP_none, unscopedRest0_eq]
  unfold shared
  iintro ⟨⟨Hx, Ho⟩, Hlev, Hcr, -, ⟨%K, Hk, Hg⟩⟩
  ihave Hc := (expects (F := F) c) $$ Hcr
  imodintro
  isplitl
  · unfold entry
    isplitl [Hk Hg Hlev]
    · iexists K
      isplitr [Hg]
      · unfold known records
        icases Hk with ⟨H1, H2⟩
        isplitl [H1]; · iexact H1
        isplitl [H2] <;> iassumption
      iexact Hg
    isplitl [Hc]; · iexact Hc
    isplitl [Hx]; · iexact Hx
    iexists (m ((c : Thread nD τ).loc main_v1))
    iexact Ho
  · iempintro

theorem before_intro : iprop(entry m c ∗ Pipeline.prefHeld Pipeline.Prefetch.none c (fun _ => fullShare.right) (fun k => k.elim0)
    ∗ Pipeline.scopedRest cfg0.spec c) ⊢ (dats m 0 c).Φ 0 := by
  rw [show (dats m 0 c).Φ 0 = before m c from rfl, scopedRest0_eq]
  unfold before
  iintro ⟨He, -, Hz, Ha, Hr⟩
  isplitl [He]; · iexact He
  isplitl [Hz]; · iexact Hz
  isplitl [Ha] <;> iassumption

theorem after_exit : (dats m 0 c).Φ (Fin.last cfg0.N) ⊢ iprop(exit m c ∗ Pipeline.ownSems0 ownSem c ∗ Pipeline.scopedRest cfg0.spec c) := by
  rw [show (dats m 0 c).Φ (Fin.last cfg0.N) = after m c from rfl, scopedRest0_eq, owns_eq]
  unfold after exit
  iintro ⟨Hb, Hn, Hs, Hx, Ho⟩
  isplitl [Hb Hx Ho]
  · isplitl [Hb]; · iexact Hb
    isplitl [Hx] <;> iassumption
  isplitl [Hn]; · iexact Hn
  iexact Hs

theorem waits : (levAts L lv : sProp 𝕄) ⊢ Pipeline.cellsWaits cfgs (dats m) () 0 c :=
  Pipeline.cellsWaits_intro cfgs (dats m) () 0 c fun w _ _ => w.elim0

/-- What the memory holds of device `c` at the end. -/
def Ends (s : MemSt nD τ sig (Elt F)) : Prop :=
  (s.mem ((c : Thread nD τ).loc main_v1) = fin m c ∧ s.mem ((c : Thread nD τ).loc main_arg0) = m ((c : Thread nD τ).loc main_arg0))
    ∧ ∀ sm : SemLoc sig, sm.isScoped .tc = false → s.sem ((c.tc : Thread nD τ), sm) = 0

theorem read_one (b : Ref sig .tc) (f : Buf (Elt F) ((c : Thread nD τ).loc b)) (s' : Phys nD τ sig (Elt F)) :
    iprop((((c : Thread nD τ).loc b) ↦{fullShare} f : sProp 𝕄) ∗ SI s') ⊢ iprop(⌜s'.mem.mem ((c : Thread nD τ).loc b) = f⌝ ∗ SI s') := by
  have h := pointsTo_read_all (Ix := Unit) (Name := ℕ) (U := UU) (Lvl := ℕ) {()} (fun _ => (c : Thread nD τ).loc b) (fun _ => f) s'
  rw [bigSep_singleton] at h
  iintro H
  ihave H := h $$ H
  icases H with ⟨%h1, HS⟩
  isplitr
  · ipureintro; exact h1 () (Finset.mem_singleton_self ())
  iexact HS

theorem exit_reads (s' : Phys nD τ sig (Elt F)) : iprop(exit m c ∗ emp ∗ SI s') ⊢ |={Set.univ}=> iprop(⌜Ends m c s'.mem⌝ ∗ SI s') := by
  unfold exit
  iintro ⟨⟨Hb, Hx, Ho⟩, -, HS⟩
  ihave H := (read_one c main_arg0 (inp m c) s') $$ [Hx HS]
  · isplitl [Hx] <;> iassumption
  icases H with ⟨%hx, HS⟩
  ihave H := (read_one c main_v1 (fin m c) s') $$ [Ho HS]
  · isplitl [Ho] <;> iassumption
  icases H with ⟨%ho, HS⟩
  imod (Pipeline.unscopedSems0_read (X := nil (F := F) c bar) (c := c) ((Entails.of_eq (unscoped_eq (F := F) c).symm).trans fupd_intro) s') $$ [Hb HS] with ⟨%hb, HS⟩
  · isplitl [Hb] <;> iassumption
  imodintro
  isplitr
  · ipureintro; exact ⟨⟨ho, hx⟩, hb⟩
  iexact HS

set_option maxRecDepth 100000 in
/-- From any memory with zero counters, every weakly fair execution on eight devices ends, with each device's result at the
    sum computed, its argument unchanged, and every counter at zero. -/
theorem run_main : θ_run defs (onTc (τ := τ) (main (F := F))) (s₀ m ρ)
    (fun r => (∀ c : Dev nD, r.2.mem ((c : Thread nD τ).loc main_v1) = fin m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owed0) (howed₀ := fun _ => rfl) (howedN := fun _ => rfl)
    (L := L) (lv := lv) (hL := L_of_ne) (hwaits := waits m)
    (G := dealt m) (G' := shared m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := alloc_all m)
    (hA := fun _ w => w.elim0) (hpf := fun _ k => k.elim0)
    (X := entry m) (Y := exit m) (Z := fun _ => iprop(emp))
    (hX := entry_intro m ρ) (hin := before_intro m) (hout := after_exit m)
    (QY := Ends m)
    (hY := exit_reads m)
    (hQ := fun _ h hs => ⟨fun c => (h c).2.2.1, sem_eq_zero hs fun c => (h c).2.2.2⟩)

end Cert.KernelIdeal.AllReduce

end
-- ==== Proof.Value.lean ====
/- The value: over exact arithmetic each device's result is the reference's, the two halves of the whole argument added. -/
module

public import proofs.«01_k».proof.Defs
public import proofs.«01_k».proof.Proof.Launch
public import proofs.«01_k».proof.Proof.Gen.ReferenceIdeal.Run
public import Idealize.ShloMosaic.Lib.IdealHost
public import Idealize.ShloMosaic.Lib.Pointwise.Reduce
public import Idealize.ShloMosaic.Lib.Pipeline.Value

@[expose] public section

noncomputable section

namespace Cert.KernelIdeal.AllReduce

open Cert.KernelIdeal Cert.KernelIdeal.Gen
open Idealize.ShloMosaic Idealize.ShloMosaic.TcCoe

/-- The whole argument, and a device's half of it. -/
abbrev Whole : Shape := ⟨2, ![32768, 1024]⟩
abbrev Half : Shape := ⟨2, ![16384, 1024]⟩

/-- Where element `i` of half `z` is in the whole argument. -/
def inWhole (z : Fin 2) (i : Half.Idx) : Whole.Idx := fun a => match a with
  | ⟨0, _⟩ => ⟨z.val * 16384 + (i 0).val, show z.val * 16384 + (i 0).val < 32768 by
      have h : (i 0).val < 16384 := (i 0).isLt
      have := z.isLt
      omega⟩
  | ⟨1, _⟩ => ⟨(i 1).val, (i 1).isLt⟩

/-- The two halves added. -/
def bothHalves (X : Whole.Idx → EReal) (i : Half.Idx) : EReal := X (inWhole 0 i) + X (inWhole 1 i)

/-! ## The reference -/

/-- Row `z`, then `i`, of the argument as the reference reshapes it. -/
theorem reshaped (X : Whole.Idx → EReal) (h : Whole.ShapeCasts ⟨3, ![2, 16384, 1024]⟩) (z : Fin 2) (i : Half.Idx) (j : (⟨3, ![2, 16384, 1024]⟩ : Shape).Idx)
    (h0 : (j 0).val = z.val) (h1 : (j 1).val = (i 0).val) (h2 : (j 2).val = (i 1).val) : shapeCast ⟨3, ![2, 16384, 1024]⟩ X h j = X (inWhole z i) := by
  refine shapeCast_apply X h j (inWhole z i) ?_
  rw [Shape.rowMajor_val_two, Shape.rowMajor_val_three, h0, h1, h2]
  rfl

theorem reference_eq (X : Whole.Idx → EReal) (h : Whole.ShapeCasts ⟨3, ![2, 16384, 1024]⟩)
    (hr : (⟨3, ![2, 16384, 1024]⟩ : Shape).ReducesTo [0] Half) (hs : 0 < (⟨0, ![]⟩ : Shape).numel) :
    (Host.reduceAdd (F := Ideal) (φ := .f32) (shapeCast ⟨3, ![2, 16384, 1024]⟩ X h) (constant (F := Ideal) ⟨0, ![]⟩ .f32 0x00000000#32) hr hs : Half.Idx → EReal)
      = bothHalves X := by
  funext i
  rw [Host.reduceAdd_apply, Ideal.hostReduceAdd_def, Ideal.hostReduceAdd_r3_a0, Fin.sum_univ_two,
    reshaped X h 0 i _ rfl rfl rfl, reshaped X h 1 i _ rfl rfl rfl,
    show (constant (F := Ideal) ⟨0, ![]⟩ .f32 0x00000000#32 (Shape.Idx.first hs) : EReal) = 0 from Ideal.ofBits_zero_f32, zero_add]
  rfl

/-! ## The kernel -/

section Kernel
variable (m : (ℓ : Loc nD τ sig) → Buf (Elt Ideal) ℓ) (X : Whole.Idx → EReal)

/-- Which half device `c` holds. -/
def halfOf (c : Dev nD) : Fin 2 := ⟨zc c, zc_lt c⟩

/-- Each device holds its half. -/
def Dealt : Prop := ∀ c : Dev nD, m ((c : Thread nD τ).loc main_arg0) = Layout.blockN Half Whole (Layout.meshBlock [2, 2, 2] ![[2], []] c) X

variable {m X}

theorem inp_eq (hX : Dealt m X) (c : Dev nD) (i : Half.Idx) : inp m c i = X (inWhole (halfOf c) i) := by
  refine (congrFun (hX c) i).trans (congrArg X (funext fun a => Fin.ext ?_))
  match a with
  | ⟨0, _⟩ =>
    rw [Layout.TilesN.idx_val]
    show Layout.meshLin [2, 2, 2] c.val [2] * 16384 + (i 0).val = zc c * 16384 + (i 0).val
    have : Layout.meshLin [2, 2, 2] c.val [2] = zc c := by
      show c.val / 1 % 2 * 1 + 0 = c.val % 2
      omega
    rw [this]
  | ⟨1, _⟩ =>
    rw [Layout.TilesN.idx_val]
    show 0 * 1024 + (i 1).val = (i 1).val
    omega

theorem sumz_eq (hX : Dealt m X) (c : Dev nD) (i : Half.Idx) : sumz m c i = bothHalves X i := by
  show inp m c i + inp m (zn c) i = _
  rw [inp_eq hX, inp_eq hX]
  have hz := zc_zn c
  have hl := zc_lt c
  unfold bothHalves
  by_cases h : zc c = 0
  · rw [show halfOf c = 0 from Fin.ext h, show halfOf (zn c) = 1 from Fin.ext (by show zc (zn c) = 1; omega)]
  · rw [show halfOf c = 1 from Fin.ext (by show zc c = 1; omega), show halfOf (zn c) = 0 from Fin.ext (by show zc (zn c) = 0; omega), add_comm]

theorem fin_eq (hX : Dealt m X) (c : Dev nD) : fin m c = bothHalves X := by
  funext i
  unfold fin
  split
  · exact sumz_eq hX _ i
  · exact sumz_eq hX _ i

end Kernel

end Cert.KernelIdeal.AllReduce

end
-- ==== Proof.lean ====
/- The claims about the all-reduce kernel on eight devices: every run ends and leaves the argument, and over exact
   arithmetic each device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.KernelIdeal.AllReduce

/-- Every run of the kernel over machine floats ends with the argument unchanged and every counter at zero. -/
theorem frame_kernel : Cert.quiescent_Kernel := fun m ρ _ =>
  (θ_run Cert.KernelIdeal.defs _ _).mono (fun _ h => ⟨fun c => (h.1 c).2, h.2⟩) (run_main (F := Bits) m ρ)

/-- The same over exact arithmetic. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference is a straight line of host operations and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact arithmetic every device ends with the reference's result. -/
theorem value : Cert.algebraic_KernelIdeal_ReferenceIdeal := by
  intro m ρ m' ρ' _ hX
  refine ⟨bothHalves (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).1.trans (fin_eq hX c), (h.1 c).2⟩) (run_main (F := Ideal) m ρ)
  · exact (θ_run Cert.ReferenceIdeal.defs _ _).mono (fun _ h => ⟨(h 0).1.trans (reference_eq _ _ _ _), (h 0).2⟩)
      (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, value⟩

end Cert.Proof

end
